-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x4096 : Shape := ⟨2, ![4096, 4096]⟩
abbrev S64x512 : Shape := ⟨2, ![64, 512]⟩
abbrev S64 : Shape := ⟨1, ![64]⟩
abbrev S_ : Shape := ⟨0, ![]⟩
abbrev S512x64 : Shape := ⟨2, ![512, 64]⟩
abbrev S1x64 : Shape := ⟨2, ![1, 64]⟩
abbrev S1x1 : Shape := ⟨2, ![1, 1]⟩
abbrev S4096x64 : Shape := ⟨2, ![4096, 64]⟩
abbrev S4x512x4096 : Shape := ⟨3, ![4, 512, 4096]⟩
abbrev S4 : Shape := ⟨1, ![4]⟩
abbrev S2x512x64 : Shape := ⟨3, ![2, 512, 64]⟩
abbrev S2 : Shape := ⟨1, ![2]⟩
abbrev S1 : Shape := ⟨1, ![1]⟩
abbrev S1x512x4096 : Shape := ⟨3, ![1, 512, 4096]⟩
abbrev S512x4096 : Shape := ⟨2, ![512, 4096]⟩
abbrev S1x512x64 : Shape := ⟨3, ![1, 512, 64]⟩

abbrev nBuf : Space → Nat
  | .hbm => 9
  | .vmem => 6
  | .smem => 1
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S64x512, .f32⟩
  | .hbm, ⟨3, _⟩ => ⟨S64, .f32⟩
  | .hbm, ⟨4, _⟩ => ⟨S_, .f32⟩
  | .hbm, ⟨5, _⟩ => ⟨S512x64, .f32⟩
  | .hbm, ⟨6, _⟩ => ⟨S1x64, .f32⟩
  | .hbm, ⟨7, _⟩ => ⟨S1x1, .f32⟩
  | .hbm, ⟨8, _⟩ => ⟨S4096x64, .f32⟩
  | .local _ .vmem, ⟨0, _⟩ => ⟨S512x64, .f32⟩
  | .local _ .vmem, ⟨1, _⟩ => ⟨S1x64, .f32⟩
  | .local _ .vmem, ⟨2, _⟩ => ⟨S4096x64, .f32⟩
  | .local _ .vmem, ⟨3, _⟩ => ⟨S4096x512, .f32⟩
  | .local _ .vmem, ⟨4, _⟩ => ⟨S4x512x4096, .f32⟩
  | .local _ .vmem, ⟨5, _⟩ => ⟨S2x512x64, .f32⟩
  | .local _ .smem, ⟨0, _⟩ => ⟨S1x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scoped0 : Ref sig .tc := ⟨.vmem, 4, rfl⟩
abbrev cc0_scoped2 : Ref sig .tc := ⟨.vmem, 5, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

def k0_off1 : Fin 1 → Nat :=
  let c0_i32_22_r0 : BitVec 32 := 0#32
  let c4_i32_r0 : BitVec 32 := 4#32
  let v25_r0 : BitVec 32 := Scalar.remui c0_i32_22_r0 c4_i32_r0
  ![v25_r0.toNat]
def k0_off2 : Fin 3 → Nat :=
  let c0_i32_22_r0 : BitVec 32 := 0#32
  let c4_i32_r0 : BitVec 32 := 4#32
  let v25_r0 : BitVec 32 := Scalar.remui c0_i32_22_r0 c4_i32_r0
  let c0_i32_23_r0 : BitVec 32 := 0#32
  let c0_i32_24_r0 : BitVec 32 := 0#32
  ![v25_r0.toNat, 0, 0]
def k0_cond1 : BitVec 1 :=
  let true_30_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c8_i32_r0 : BitVec 32 := 8#32
  let v7_r0 : BitVec 1 := Scalar.cmpi .eq v6_r0 c8_i32_r0
  let c0_i32_5_r0 : BitVec 32 := 0#32
  let v8_r0 : BitVec 32 := Scalar.select v7_r0 c0_i32_5_r0 v6_r0
  let c0_i32_6_r0 : BitVec 32 := 0#32
  let v9_r0 : BitVec 32 := Scalar.addi v8_r0 c0_i32_6_r0
  let c0_i32_29_r0 : BitVec 32 := 0#32
  let v32_r0 : BitVec 1 := Scalar.cmpi .ne v9_r0 c0_i32_29_r0
  let v33_r0 : BitVec 1 := Scalar.andi true_30_r0 v32_r0
  let true_31_r0 : BitVec 1 := 1#1
  let v34_r0 : BitVec 1 := Scalar.andi v33_r0 true_31_r0
  let v35_r0 : BitVec 32 := Scalar.extui v34_r0
  let c0_i32_32_r0 : BitVec 32 := 0#32
  let v36_r0 : BitVec 1 := Scalar.cmpi .ne v35_r0 c0_i32_32_r0
  v36_r0

def k0_off3 : Fin 1 → Nat :=
  let c0_i32_27_r0 : BitVec 32 := 0#32
  let c1_i32_28_r0 : BitVec 32 := 1#32
  let v31_r0 : BitVec 32 := Scalar.addi c0_i32_27_r0 c1_i32_28_r0
  let c4_i32_79_r0 : BitVec 32 := 4#32
  let v85_r0 : BitVec 32 := Scalar.remui v31_r0 c4_i32_79_r0
  ![v85_r0.toNat]
def k0_off4 : Fin 3 → Nat :=
  let c0_i32_27_r0 : BitVec 32 := 0#32
  let c1_i32_28_r0 : BitVec 32 := 1#32
  let v31_r0 : BitVec 32 := Scalar.addi c0_i32_27_r0 c1_i32_28_r0
  let c4_i32_79_r0 : BitVec 32 := 4#32
  let v85_r0 : BitVec 32 := Scalar.remui v31_r0 c4_i32_79_r0
  let c0_i32_81_r0 : BitVec 32 := 0#32
  let c0_i32_82_r0 : BitVec 32 := 0#32
  ![v85_r0.toNat, 0, 0]
def k0_off5 : Fin 2 → Nat :=
  let c512_i32_80_r0 : BitVec 32 := 512#32
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c8_i32_r0 : BitVec 32 := 8#32
  let v7_r0 : BitVec 1 := Scalar.cmpi .eq v6_r0 c8_i32_r0
  let c0_i32_5_r0 : BitVec 32 := 0#32
  let v8_r0 : BitVec 32 := Scalar.select v7_r0 c0_i32_5_r0 v6_r0
  let c0_i32_6_r0 : BitVec 32 := 0#32
  let v9_r0 : BitVec 32 := Scalar.addi v8_r0 c0_i32_6_r0
  let v86_r0 : BitVec 32 := Scalar.muli c512_i32_80_r0 v9_r0
  let c0_i32_83_r0 : BitVec 32 := 0#32
  ![v86_r0.toNat, 0]
def k0_cond2 : BitVec 1 :=
  let true_34_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c8_i32_r0 : BitVec 32 := 8#32
  let v7_r0 : BitVec 1 := Scalar.cmpi .eq v6_r0 c8_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c8_i32_9_r0 : BitVec 32 := 8#32
  let v12_r0 : BitVec 1 := Scalar.cmpi .eq v11_r0 c8_i32_9_r0
  let c0_i32_10_r0 : BitVec 32 := 0#32
  let v13_r0 : BitVec 32 := Scalar.select v12_r0 c0_i32_10_r0 v11_r0
  let c0_i32_11_r0 : BitVec 32 := 0#32
  let v14_r0 : BitVec 32 := Scalar.addi v13_r0 c0_i32_11_r0
  let c0_i32_6_r0 : BitVec 32 := 0#32
  let v9_r0 : BitVec 32 := Scalar.addi v8_r0 c0_i32_6_r0
  let v39_r0 : BitVec 1 := Scalar.cmpi .ne v14_r0 v9_r0
  let v40_r0 : BitVec 1 := Scalar.andi true_34_r0 v39_r0
  let true_35_r0 : BitVec 1 := 1#1
  let v41_r0 : BitVec 1 := Scalar.andi v40_r0 true_35_r0
  let v42_r0 : BitVec 32 := Scalar.extui v41_r0
  let c0_i32_36_r0 : BitVec 32 := 0#32
  let v43_r0 : BitVec 1 := Scalar.cmpi .ne v42_r0 c0_i32_36_r0
  v43_r0

def k0_off6 : Fin 1 → Nat :=
  let true_30_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c8_i32_r0 : BitVec 32 := 8#32
  let v7_r0 : BitVec 1 := Scalar.cmpi .eq v6_r0 c8_i32_r0
  let c0_i32_5_r0 : BitVec 32 := 0#32
  let v8_r0 : BitVec 32 := Scalar.select v7_r0 c0_i32_5_r0 v6_r0
  let c0_i32_6_r0 : BitVec 32 := 0#32
  let v9_r0 : BitVec 32 := Scalar.addi v8_r0 c0_i32_6_r0
  let c0_i32_29_r0 : BitVec 32 := 0#32
  let v32_r0 : BitVec 1 := Scalar.cmpi .ne v9_r0 c0_i32_29_r0
  let v33_r0 : BitVec 1 := Scalar.andi true_30_r0 v32_r0
  let c0_i32_27_r0 : BitVec 32 := 0#32
  let c1_i32_28_r0 : BitVec 32 := 1#32
  let v31_r0 : BitVec 32 := Scalar.addi c0_i32_27_r0 c1_i32_28_r0
  let c1_i32_33_r0 : BitVec 32 := 1#32
  let v37_r0 : BitVec 32 := Scalar.addi v31_r0 c1_i32_33_r0
  let v38_r0 : BitVec 32 := Scalar.select v33_r0 v37_r0 v31_r0
  let c4_i32_79_r0 : BitVec 32 := 4#32
  let v85_r0 : BitVec 32 := Scalar.remui v38_r0 c4_i32_79_r0
  ![v85_r0.toNat]
def k0_off7 : Fin 3 → Nat :=
  let true_30_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c8_i32_r0 : BitVec 32 := 8#32
  let v7_r0 : BitVec 1 := Scalar.cmpi .eq v6_r0 c8_i32_r0
  let c0_i32_5_r0 : BitVec 32 := 0#32
  let v8_r0 : BitVec 32 := Scalar.select v7_r0 c0_i32_5_r0 v6_r0
  let c0_i32_6_r0 : BitVec 32 := 0#32
  let v9_r0 : BitVec 32 := Scalar.addi v8_r0 c0_i32_6_r0
  let c0_i32_29_r0 : BitVec 32 := 0#32
  let v32_r0 : BitVec 1 := Scalar.cmpi .ne v9_r0 c0_i32_29_r0
  let v33_r0 : BitVec 1 := Scalar.andi true_30_r0 v32_r0
  let c0_i32_27_r0 : BitVec 32 := 0#32
  let c1_i32_28_r0 : BitVec 32 := 1#32
  let v31_r0 : BitVec 32 := Scalar.addi c0_i32_27_r0 c1_i32_28_r0
  let c1_i32_33_r0 : BitVec 32 := 1#32
  let v37_r0 : BitVec 32 := Scalar.addi v31_r0 c1_i32_33_r0
  let v38_r0 : BitVec 32 := Scalar.select v33_r0 v37_r0 v31_r0
  let c4_i32_79_r0 : BitVec 32 := 4#32
  let v85_r0 : BitVec 32 := Scalar.remui v38_r0 c4_i32_79_r0
  let c0_i32_81_r0 : BitVec 32 := 0#32
  let c0_i32_82_r0 : BitVec 32 := 0#32
  ![v85_r0.toNat, 0, 0]
def k0_off8 : Fin 2 → Nat :=
  let c512_i32_80_r0 : BitVec 32 := 512#32
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c8_i32_r0 : BitVec 32 := 8#32
  let v7_r0 : BitVec 1 := Scalar.cmpi .eq v6_r0 c8_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c8_i32_9_r0 : BitVec 32 := 8#32
  let v12_r0 : BitVec 1 := Scalar.cmpi .eq v11_r0 c8_i32_9_r0
  let c0_i32_10_r0 : BitVec 32 := 0#32
  let v13_r0 : BitVec 32 := Scalar.select v12_r0 c0_i32_10_r0 v11_r0
  let c0_i32_11_r0 : BitVec 32 := 0#32
  let v14_r0 : BitVec 32 := Scalar.addi v13_r0 c0_i32_11_r0
  let v86_r0 : BitVec 32 := Scalar.muli c512_i32_80_r0 v14_r0
  let c0_i32_83_r0 : BitVec 32 := 0#32
  ![v86_r0.toNat, 0]
@[reducible] def k0_t1_loop : Scf.Loop 32 :=
  let c0_i32_42_r0 : BitVec 32 := 0#32
  let c8_i32_43_r0 : BitVec 32 := 8#32
  let v46_r0 : BitVec 32 := Scalar.addi c0_i32_42_r0 c8_i32_43_r0
  let c1_i32_44_r0 : BitVec 32 := 1#32
  ⟨c0_i32_42_r0, v46_r0, c1_i32_44_r0⟩
def k0_off9 (arg10_r0 : BitVec 32) : Fin 1 → Nat :=
  let c4_i32_148_r0 : BitVec 32 := 4#32
  let v197_r0 : BitVec 32 := Scalar.remui arg10_r0 c4_i32_148_r0
  ![v197_r0.toNat]
def k0_cond3 (k0_t1 : Fin k0_t1_loop.trips) (arg14_r0 : BitVec 32) : BitVec 1 :=
  let true_93_r0 : BitVec 1 := 1#1
  let true_88_r0 : BitVec 1 := 1#1
  let c1_i32_87_r0 : BitVec 32 := 1#32
  let v93_r0 : BitVec 32 := Scalar.addi arg14_r0 c1_i32_87_r0
  let v94_r0 : BitVec 32 := Scalar.select true_88_r0 v93_r0 arg14_r0
  let c8_i32_89_r0 : BitVec 32 := 8#32
  let v95_r0 : BitVec 1 := Scalar.cmpi .eq v94_r0 c8_i32_89_r0
  let c0_i32_90_r0 : BitVec 32 := 0#32
  let v96_r0 : BitVec 32 := Scalar.select v95_r0 c0_i32_90_r0 v94_r0
  let c1_i32_92_r0 : BitVec 32 := 1#32
  let v98_r0 : BitVec 32 := Scalar.addi v96_r0 c1_i32_92_r0
  let v99_r0 : BitVec 32 := Scalar.select true_93_r0 v98_r0 v96_r0
  let c8_i32_94_r0 : BitVec 32 := 8#32
  let v100_r0 : BitVec 1 := Scalar.cmpi .eq v99_r0 c8_i32_94_r0
  let c0_i32_95_r0 : BitVec 32 := 0#32
  let v101_r0 : BitVec 32 := Scalar.select v100_r0 c0_i32_95_r0 v99_r0
  let c0_i32_96_r0 : BitVec 32 := 0#32
  let v102_r0 : BitVec 32 := Scalar.addi v101_r0 c0_i32_96_r0
  let true_98_r0 : BitVec 1 := 1#1
  let c1_i32_97_r0 : BitVec 32 := 1#32
  let v103_r0 : BitVec 32 := Scalar.addi v101_r0 c1_i32_97_r0
  let v104_r0 : BitVec 32 := Scalar.select true_98_r0 v103_r0 v101_r0
  let c8_i32_99_r0 : BitVec 32 := 8#32
  let v105_r0 : BitVec 1 := Scalar.cmpi .eq v104_r0 c8_i32_99_r0
  let c0_i32_100_r0 : BitVec 32 := 0#32
  let v106_r0 : BitVec 32 := Scalar.select v105_r0 c0_i32_100_r0 v104_r0
  let c0_i32_101_r0 : BitVec 32 := 0#32
  let v107_r0 : BitVec 32 := Scalar.addi v106_r0 c0_i32_101_r0
  let v113_r0 : BitVec 1 := Scalar.cmpi .ne v102_r0 v107_r0
  let c0_i32_42_r0 : BitVec 32 := 0#32
  let c1_i32_44_r0 : BitVec 32 := 1#32
  let arg9_r0 : BitVec 32 := Scf.iv c0_i32_42_r0 c1_i32_44_r0 k0_t1
  let c5_i32_r0 : BitVec 32 := 5#32
  let v114_r0 : BitVec 1 := Scalar.cmpi .sge arg9_r0 c5_i32_r0
  let true_107_r0 : BitVec 1 := 1#1
  let v115_r0 : BitVec 1 := Scalar.xori v114_r0 true_107_r0
  let v116_r0 : BitVec 1 := Scalar.andi v113_r0 v115_r0
  let true_108_r0 : BitVec 1 := 1#1
  let v117_r0 : BitVec 1 := Scalar.andi v116_r0 true_108_r0
  let v118_r0 : BitVec 32 := Scalar.extui v117_r0
  let c0_i32_109_r0 : BitVec 32 := 0#32
  let v119_r0 : BitVec 1 := Scalar.cmpi .ne v118_r0 c0_i32_109_r0
  v119_r0

def k0_off10 (arg10_r0 : BitVec 32) : Fin 3 → Nat :=
  let c4_i32_148_r0 : BitVec 32 := 4#32
  let v197_r0 : BitVec 32 := Scalar.remui arg10_r0 c4_i32_148_r0
  let c0_i32_150_r0 : BitVec 32 := 0#32
  let c0_i32_151_r0 : BitVec 32 := 0#32
  ![v197_r0.toNat, 0, 0]
def k0_off11 (arg14_r0 : BitVec 32) : Fin 2 → Nat :=
  let c512_i32_149_r0 : BitVec 32 := 512#32
  let true_98_r0 : BitVec 1 := 1#1
  let true_93_r0 : BitVec 1 := 1#1
  let true_88_r0 : BitVec 1 := 1#1
  let c1_i32_87_r0 : BitVec 32 := 1#32
  let v93_r0 : BitVec 32 := Scalar.addi arg14_r0 c1_i32_87_r0
  let v94_r0 : BitVec 32 := Scalar.select true_88_r0 v93_r0 arg14_r0
  let c8_i32_89_r0 : BitVec 32 := 8#32
  let v95_r0 : BitVec 1 := Scalar.cmpi .eq v94_r0 c8_i32_89_r0
  let c0_i32_90_r0 : BitVec 32 := 0#32
  let v96_r0 : BitVec 32 := Scalar.select v95_r0 c0_i32_90_r0 v94_r0
  let c1_i32_92_r0 : BitVec 32 := 1#32
  let v98_r0 : BitVec 32 := Scalar.addi v96_r0 c1_i32_92_r0
  let v99_r0 : BitVec 32 := Scalar.select true_93_r0 v98_r0 v96_r0
  let c8_i32_94_r0 : BitVec 32 := 8#32
  let v100_r0 : BitVec 1 := Scalar.cmpi .eq v99_r0 c8_i32_94_r0
  let c0_i32_95_r0 : BitVec 32 := 0#32
  let v101_r0 : BitVec 32 := Scalar.select v100_r0 c0_i32_95_r0 v99_r0
  let c1_i32_97_r0 : BitVec 32 := 1#32
  let v103_r0 : BitVec 32 := Scalar.addi v101_r0 c1_i32_97_r0
  let v104_r0 : BitVec 32 := Scalar.select true_98_r0 v103_r0 v101_r0
  let c8_i32_99_r0 : BitVec 32 := 8#32
  let v105_r0 : BitVec 1 := Scalar.cmpi .eq v104_r0 c8_i32_99_r0
  let c0_i32_100_r0 : BitVec 32 := 0#32
  let v106_r0 : BitVec 32 := Scalar.select v105_r0 c0_i32_100_r0 v104_r0
  let c0_i32_101_r0 : BitVec 32 := 0#32
  let v107_r0 : BitVec 32 := Scalar.addi v106_r0 c0_i32_101_r0
  let v198_r0 : BitVec 32 := Scalar.muli c512_i32_149_r0 v107_r0
  let c0_i32_152_r0 : BitVec 32 := 0#32
  ![v198_r0.toNat, 0]
def k0_off12 (arg11_r0 : BitVec 32) : Fin 1 → Nat :=
  let c4_i32_149_r0 : BitVec 32 := 4#32
  let v198_r0 : BitVec 32 := Scalar.remui arg11_r0 c4_i32_149_r0
  ![v198_r0.toNat]
def k0_cond4 (k0_t1 : Fin k0_t1_loop.trips) (arg14_r0 : BitVec 32) : BitVec 1 :=
  let c0_i32_81_r0 : BitVec 32 := 0#32
  let v87_r0 : BitVec 32 := Scalar.addi arg14_r0 c0_i32_81_r0
  let true_83_r0 : BitVec 1 := 1#1
  let c1_i32_82_r0 : BitVec 32 := 1#32
  let v88_r0 : BitVec 32 := Scalar.subi arg14_r0 c1_i32_82_r0
  let v89_r0 : BitVec 32 := Scalar.select true_83_r0 v88_r0 arg14_r0
  let c_m1_i32_84_r0 : BitVec 32 := 4294967295#32
  let v90_r0 : BitVec 1 := Scalar.cmpi .eq v89_r0 c_m1_i32_84_r0
  let c7_i32_85_r0 : BitVec 32 := 7#32
  let v91_r0 : BitVec 32 := Scalar.select v90_r0 c7_i32_85_r0 v89_r0
  let c0_i32_86_r0 : BitVec 32 := 0#32
  let v92_r0 : BitVec 32 := Scalar.addi v91_r0 c0_i32_86_r0
  let v127_r0 : BitVec 1 := Scalar.cmpi .ne v87_r0 v92_r0
  let c0_i32_42_r0 : BitVec 32 := 0#32
  let c1_i32_44_r0 : BitVec 32 := 1#32
  let arg9_r0 : BitVec 32 := Scf.iv c0_i32_42_r0 c1_i32_44_r0 k0_t1
  let c0_i32_79_r0 : BitVec 32 := 0#32
  let v85_r0 : BitVec 1 := Scalar.cmpi .eq arg9_r0 c0_i32_79_r0
  let v128_r0 : BitVec 1 := Scalar.ori v127_r0 v85_r0
  let c0_i32_114_r0 : BitVec 32 := 0#32
  let v129_r0 : BitVec 1 := Scalar.cmpi .sge arg9_r0 c0_i32_114_r0
  let v130_r0 : BitVec 1 := Scalar.andi v128_r0 v129_r0
  let v131_r0 : BitVec 32 := Scalar.extui v130_r0
  let c0_i32_115_r0 : BitVec 32 := 0#32
  let v132_r0 : BitVec 1 := Scalar.cmpi .ne v131_r0 c0_i32_115_r0
  v132_r0

def k0_off13 (arg11_r0 : BitVec 32) : Fin 3 → Nat :=
  let c4_i32_149_r0 : BitVec 32 := 4#32
  let v198_r0 : BitVec 32 := Scalar.remui arg11_r0 c4_i32_149_r0
  let c0_i32_150_r0 : BitVec 32 := 0#32
  let c0_i32_151_r0 : BitVec 32 := 0#32
  ![v198_r0.toNat, 0, 0]
def k0_off14 (arg14_r0 : BitVec 32) : Fin 2 → Nat :=
  let c512_i32_148_r0 : BitVec 32 := 512#32
  let c0_i32_81_r0 : BitVec 32 := 0#32
  let v87_r0 : BitVec 32 := Scalar.addi arg14_r0 c0_i32_81_r0
  let v197_r0 : BitVec 32 := Scalar.muli c512_i32_148_r0 v87_r0
  let c0_i32_152_r0 : BitVec 32 := 0#32
  ![v197_r0.toNat, 0]
def k0_off15 (arg11_r0 : BitVec 32) : Fin 3 → Nat :=
  let c4_i32_118_r0 : BitVec 32 := 4#32
  let v139_r0 : BitVec 32 := Scalar.remui arg11_r0 c4_i32_118_r0
  let v144_r0 : Index := Scalar.indexCast v139_r0
  let c0_r0 : Index := 0#32
  let c0_122_r0 : Index := 0#32
  ![v144_r0.toNat, 0, 0]

def k0_chk2 (arg11_r0 : BitVec 32) : Prop :=
  (∀ a, (k0_off15 arg11_r0) a + S1x512x4096.size a ≤ S4x512x4096.size a)
theorem k0_off15_inb : ∀ (arg11_r0 : BitVec 32) (k0_hw2 : k0_chk2 arg11_r0), ∀ a, (k0_off15 arg11_r0) a + S1x512x4096.size a ≤ S4x512x4096.size a := fun arg11_r0 k0_hw2 => k0_hw2

def k0_off16 (arg12_r0 : BitVec 32) : Fin 3 → Nat :=
  let c2_i32_119_r0 : BitVec 32 := 2#32
  let v140_r0 : BitVec 32 := Scalar.remui arg12_r0 c2_i32_119_r0
  let v159_r0 : Index := Scalar.indexCast v140_r0
  let c0_130_r0 : Index := 0#32
  let c0_131_r0 : Index := 0#32
  ![v159_r0.toNat, 0, 0]

def k0_chk3 (arg12_r0 : BitVec 32) : Prop :=
  (∀ a, (k0_off16 arg12_r0) a + S1x512x64.size a ≤ S2x512x64.size a)
theorem k0_off16_inb : ∀ (arg12_r0 : BitVec 32) (k0_hw3 : k0_chk3 arg12_r0), ∀ a, (k0_off16 arg12_r0) a + S1x512x64.size a ≤ S2x512x64.size a := fun arg12_r0 k0_hw3 => k0_hw3

def k0_off17 (arg12_r0 : BitVec 32) : Fin 1 → Nat :=
  let c2_i32_148_r0 : BitVec 32 := 2#32
  let v197_r0 : BitVec 32 := Scalar.remui arg12_r0 c2_i32_148_r0
  ![v197_r0.toNat]
def k0_cond8 (k0_t1 : Fin k0_t1_loop.trips) (arg14_r0 : BitVec 32) : BitVec 1 :=
  let c0_i32_81_r0 : BitVec 32 := 0#32
  let v87_r0 : BitVec 32 := Scalar.addi arg14_r0 c0_i32_81_r0
  let true_88_r0 : BitVec 1 := 1#1
  let c1_i32_87_r0 : BitVec 32 := 1#32
  let v93_r0 : BitVec 32 := Scalar.addi arg14_r0 c1_i32_87_r0
  let v94_r0 : BitVec 32 := Scalar.select true_88_r0 v93_r0 arg14_r0
  let c8_i32_89_r0 : BitVec 32 := 8#32
  let v95_r0 : BitVec 1 := Scalar.cmpi .eq v94_r0 c8_i32_89_r0
  let c0_i32_90_r0 : BitVec 32 := 0#32
  let v96_r0 : BitVec 32 := Scalar.select v95_r0 c0_i32_90_r0 v94_r0
  let c0_i32_91_r0 : BitVec 32 := 0#32
  let v97_r0 : BitVec 32 := Scalar.addi v96_r0 c0_i32_91_r0
  let v168_r0 : BitVec 1 := Scalar.cmpi .ne v87_r0 v97_r0
  let c0_i32_42_r0 : BitVec 32 := 0#32
  let c1_i32_44_r0 : BitVec 32 := 1#32
  let arg9_r0 : BitVec 32 := Scf.iv c0_i32_42_r0 c1_i32_44_r0 k0_t1
  let c7_i32_80_r0 : BitVec 32 := 7#32
  let v86_r0 : BitVec 1 := Scalar.cmpi .eq arg9_r0 c7_i32_80_r0
  let v169_r0 : BitVec 1 := Scalar.ori v168_r0 v86_r0
  let v170_r0 : BitVec 32 := Scalar.extui v169_r0
  let c0_i32_133_r0 : BitVec 32 := 0#32
  let v171_r0 : BitVec 1 := Scalar.cmpi .ne v170_r0 c0_i32_133_r0
  v171_r0

def k0_off18 (arg14_r0 : BitVec 32) : Fin 2 → Nat :=
  let c512_i32_149_r0 : BitVec 32 := 512#32
  let c0_i32_81_r0 : BitVec 32 := 0#32
  let v87_r0 : BitVec 32 := Scalar.addi arg14_r0 c0_i32_81_r0
  let v198_r0 : BitVec 32 := Scalar.muli c512_i32_149_r0 v87_r0
  let c0_i32_150_r0 : BitVec 32 := 0#32
  ![v198_r0.toNat, 0]
def k0_off19 (arg12_r0 : BitVec 32) : Fin 3 → Nat :=
  let c2_i32_148_r0 : BitVec 32 := 2#32
  let v197_r0 : BitVec 32 := Scalar.remui arg12_r0 c2_i32_148_r0
  let c0_i32_151_r0 : BitVec 32 := 0#32
  let c0_i32_152_r0 : BitVec 32 := 0#32
  ![v197_r0.toNat, 0, 0]
def k0_off20 (arg13_r0 : BitVec 32) : Fin 1 → Nat :=
  let c2_i32_148_r0 : BitVec 32 := 2#32
  let v197_r0 : BitVec 32 := Scalar.remui arg13_r0 c2_i32_148_r0
  ![v197_r0.toNat]
def k0_cond10 (k0_t1 : Fin k0_t1_loop.trips) (arg14_r0 : BitVec 32) : BitVec 1 :=
  let c0_i32_81_r0 : BitVec 32 := 0#32
  let v87_r0 : BitVec 32 := Scalar.addi arg14_r0 c0_i32_81_r0
  let true_83_r0 : BitVec 1 := 1#1
  let c1_i32_82_r0 : BitVec 32 := 1#32
  let v88_r0 : BitVec 32 := Scalar.subi arg14_r0 c1_i32_82_r0
  let v89_r0 : BitVec 32 := Scalar.select true_83_r0 v88_r0 arg14_r0
  let c_m1_i32_84_r0 : BitVec 32 := 4294967295#32
  let v90_r0 : BitVec 1 := Scalar.cmpi .eq v89_r0 c_m1_i32_84_r0
  let c7_i32_85_r0 : BitVec 32 := 7#32
  let v91_r0 : BitVec 32 := Scalar.select v90_r0 c7_i32_85_r0 v89_r0
  let c0_i32_86_r0 : BitVec 32 := 0#32
  let v92_r0 : BitVec 32 := Scalar.addi v91_r0 c0_i32_86_r0
  let v181_r0 : BitVec 1 := Scalar.cmpi .ne v87_r0 v92_r0
  let c0_i32_42_r0 : BitVec 32 := 0#32
  let c1_i32_44_r0 : BitVec 32 := 1#32
  let arg9_r0 : BitVec 32 := Scf.iv c0_i32_42_r0 c1_i32_44_r0 k0_t1
  let c0_i32_79_r0 : BitVec 32 := 0#32
  let v85_r0 : BitVec 1 := Scalar.cmpi .eq arg9_r0 c0_i32_79_r0
  let true_139_r0 : BitVec 1 := 1#1
  let v182_r0 : BitVec 1 := Scalar.xori v85_r0 true_139_r0
  let v183_r0 : BitVec 1 := Scalar.andi v181_r0 v182_r0
  let v184_r0 : BitVec 32 := Scalar.extui v183_r0
  let c0_i32_140_r0 : BitVec 32 := 0#32
  let v185_r0 : BitVec 1 := Scalar.cmpi .ne v184_r0 c0_i32_140_r0
  v185_r0

def k0_off21 (arg14_r0 : BitVec 32) : Fin 2 → Nat :=
  let c512_i32_149_r0 : BitVec 32 := 512#32
  let true_83_r0 : BitVec 1 := 1#1
  let c1_i32_82_r0 : BitVec 32 := 1#32
  let v88_r0 : BitVec 32 := Scalar.subi arg14_r0 c1_i32_82_r0
  let v89_r0 : BitVec 32 := Scalar.select true_83_r0 v88_r0 arg14_r0
  let c_m1_i32_84_r0 : BitVec 32 := 4294967295#32
  let v90_r0 : BitVec 1 := Scalar.cmpi .eq v89_r0 c_m1_i32_84_r0
  let c7_i32_85_r0 : BitVec 32 := 7#32
  let v91_r0 : BitVec 32 := Scalar.select v90_r0 c7_i32_85_r0 v89_r0
  let c0_i32_86_r0 : BitVec 32 := 0#32
  let v92_r0 : BitVec 32 := Scalar.addi v91_r0 c0_i32_86_r0
  let v198_r0 : BitVec 32 := Scalar.muli c512_i32_149_r0 v92_r0
  let c0_i32_150_r0 : BitVec 32 := 0#32
  ![v198_r0.toNat, 0]
def k0_off22 (arg13_r0 : BitVec 32) : Fin 3 → Nat :=
  let c2_i32_148_r0 : BitVec 32 := 2#32
  let v197_r0 : BitVec 32 := Scalar.remui arg13_r0 c2_i32_148_r0
  let c0_i32_151_r0 : BitVec 32 := 0#32
  let c0_i32_152_r0 : BitVec 32 := 0#32
  ![v197_r0.toNat, 0, 0]

def k0_chk1 (k0_t1 : Fin k0_t1_loop.trips) (arg10_r0 : BitVec 32) (arg11_r0 : BitVec 32) (arg12_r0 : BitVec 32) (arg13_r0 : BitVec 32) (arg14_r0 : BitVec 32) : Prop :=
  (∀ (k0_h3 : k0_cond3 k0_t1 arg14_r0 = 1#1), ∀ a, (k0_off9 arg10_r0) a + S1.size a ≤ S4.size a) ∧
  (∀ (k0_h3 : k0_cond3 k0_t1 arg14_r0 = 1#1), ∀ a, (k0_off10 arg10_r0) a + S1x512x4096.size a ≤ S4x512x4096.size a) ∧
  (∀ (k0_h3 : k0_cond3 k0_t1 arg14_r0 = 1#1), ∀ a, (k0_off11 arg14_r0) a + S512x4096.size a ≤ S4096x4096.size a) ∧
  (∀ (k0_h4 : k0_cond4 k0_t1 arg14_r0 = 1#1), ∀ a, (k0_off12 arg11_r0) a + S1.size a ≤ S4.size a) ∧
  (∀ (k0_h4 : k0_cond4 k0_t1 arg14_r0 = 1#1), ∀ a, (k0_off13 arg11_r0) a + S1x512x4096.size a ≤ S4x512x4096.size a) ∧
  (∀ (k0_h4 : k0_cond4 k0_t1 arg14_r0 = 1#1), ∀ a, (k0_off14 arg14_r0) a + S512x4096.size a ≤ S4096x4096.size a) ∧
  (∀ (k0_h8 : k0_cond8 k0_t1 arg14_r0 = 1#1), ∀ a, (k0_off17 arg12_r0) a + S1.size a ≤ S2.size a) ∧
  (∀ (k0_h8 : k0_cond8 k0_t1 arg14_r0 = 1#1), ∀ a, (k0_off18 arg14_r0) a + S512x64.size a ≤ S4096x64.size a) ∧
  (∀ (k0_h8 : k0_cond8 k0_t1 arg14_r0 = 1#1), ∀ a, (k0_off19 arg12_r0) a + S1x512x64.size a ≤ S2x512x64.size a) ∧
  (∀ (k0_h10 : k0_cond10 k0_t1 arg14_r0 = 1#1), ∀ a, (k0_off20 arg13_r0) a + S1.size a ≤ S2.size a) ∧
  (∀ (k0_h10 : k0_cond10 k0_t1 arg14_r0 = 1#1), ∀ a, (k0_off21 arg14_r0) a + S512x64.size a ≤ S4096x64.size a) ∧
  (∀ (k0_h10 : k0_cond10 k0_t1 arg14_r0 = 1#1), ∀ a, (k0_off22 arg13_r0) a + S1x512x64.size a ≤ S2x512x64.size a)
theorem k0_off9_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ (k0_h3 : k0_cond3 k0_t1 arg14_r0 = 1#1), ∀ a, (k0_off9 arg10_r0) a + S1.size a ≤ S4.size a := fun k0_t1 arg10_r0 arg11_r0 arg12_r0 arg13_r0 arg14_r0 k0_hw1 k0_h3 => k0_hw1.1 k0_h3
theorem k0_off10_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ (k0_h3 : k0_cond3 k0_t1 arg14_r0 = 1#1), ∀ a, (k0_off10 arg10_r0) a + S1x512x4096.size a ≤ S4x512x4096.size a := fun k0_t1 arg10_r0 arg11_r0 arg12_r0 arg13_r0 arg14_r0 k0_hw1 k0_h3 => k0_hw1.2.1 k0_h3
theorem k0_off11_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ (k0_h3 : k0_cond3 k0_t1 arg14_r0 = 1#1), ∀ a, (k0_off11 arg14_r0) a + S512x4096.size a ≤ S4096x4096.size a := fun k0_t1 arg10_r0 arg11_r0 arg12_r0 arg13_r0 arg14_r0 k0_hw1 k0_h3 => k0_hw1.2.2.1 k0_h3
theorem k0_off12_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ (k0_h4 : k0_cond4 k0_t1 arg14_r0 = 1#1), ∀ a, (k0_off12 arg11_r0) a + S1.size a ≤ S4.size a := fun k0_t1 arg10_r0 arg11_r0 arg12_r0 arg13_r0 arg14_r0 k0_hw1 k0_h4 => k0_hw1.2.2.2.1 k0_h4
theorem k0_off13_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ (k0_h4 : k0_cond4 k0_t1 arg14_r0 = 1#1), ∀ a, (k0_off13 arg11_r0) a + S1x512x4096.size a ≤ S4x512x4096.size a := fun k0_t1 arg10_r0 arg11_r0 arg12_r0 arg13_r0 arg14_r0 k0_hw1 k0_h4 => k0_hw1.2.2.2.2.1 k0_h4
theorem k0_off14_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ (k0_h4 : k0_cond4 k0_t1 arg14_r0 = 1#1), ∀ a, (k0_off14 arg14_r0) a + S512x4096.size a ≤ S4096x4096.size a := fun k0_t1 arg10_r0 arg11_r0 arg12_r0 arg13_r0 arg14_r0 k0_hw1 k0_h4 => k0_hw1.2.2.2.2.2.1 k0_h4
theorem k0_off17_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ (k0_h8 : k0_cond8 k0_t1 arg14_r0 = 1#1), ∀ a, (k0_off17 arg12_r0) a + S1.size a ≤ S2.size a := fun k0_t1 arg10_r0 arg11_r0 arg12_r0 arg13_r0 arg14_r0 k0_hw1 k0_h8 => k0_hw1.2.2.2.2.2.2.1 k0_h8
theorem k0_off18_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ (k0_h8 : k0_cond8 k0_t1 arg14_r0 = 1#1), ∀ a, (k0_off18 arg14_r0) a + S512x64.size a ≤ S4096x64.size a := fun k0_t1 arg10_r0 arg11_r0 arg12_r0 arg13_r0 arg14_r0 k0_hw1 k0_h8 => k0_hw1.2.2.2.2.2.2.2.1 k0_h8
theorem k0_off19_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ (k0_h8 : k0_cond8 k0_t1 arg14_r0 = 1#1), ∀ a, (k0_off19 arg12_r0) a + S1x512x64.size a ≤ S2x512x64.size a := fun k0_t1 arg10_r0 arg11_r0 arg12_r0 arg13_r0 arg14_r0 k0_hw1 k0_h8 => k0_hw1.2.2.2.2.2.2.2.2.1 k0_h8
theorem k0_off20_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ (k0_h10 : k0_cond10 k0_t1 arg14_r0 = 1#1), ∀ a, (k0_off20 arg13_r0) a + S1.size a ≤ S2.size a := fun k0_t1 arg10_r0 arg11_r0 arg12_r0 arg13_r0 arg14_r0 k0_hw1 k0_h10 => k0_hw1.2.2.2.2.2.2.2.2.2.1 k0_h10
theorem k0_off21_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ (k0_h10 : k0_cond10 k0_t1 arg14_r0 = 1#1), ∀ a, (k0_off21 arg14_r0) a + S512x64.size a ≤ S4096x64.size a := fun k0_t1 arg10_r0 arg11_r0 arg12_r0 arg13_r0 arg14_r0 k0_hw1 k0_h10 => k0_hw1.2.2.2.2.2.2.2.2.2.2.1 k0_h10
theorem k0_off22_inb : ∀ (k0_t1 : Fin k0_t1_loop.trips) (arg10_r0 : BitVec 32) (arg11_r0 : BitVec 32) (arg12_r0 : BitVec 32) (arg13_r0 : BitVec 32) (arg14_r0 : BitVec 32) (k0_hw1 : k0_chk1 k0_t1 arg10_r0 arg11_r0 arg12_r0 arg13_r0 arg14_r0), ∀ (k0_h10 : k0_cond10 k0_t1 arg14_r0 = 1#1), ∀ a, (k0_off22 arg13_r0) a + S1x512x64.size a ≤ S2x512x64.size a := fun k0_t1 arg10_r0 arg11_r0 arg12_r0 arg13_r0 arg14_r0 k0_hw1 k0_h10 => k0_hw1.2.2.2.2.2.2.2.2.2.2.2 k0_h10

def k0_off23 (v47_3_r0 : BitVec 32) : Fin 1 → Nat :=
  let c2_i32_r0 : BitVec 32 := 2#32
  let v78_r0 : BitVec 32 := Scalar.remui v47_3_r0 c2_i32_r0
  ![v78_r0.toNat]

def k0_off24 (v47_4_r0 : BitVec 32) : Fin 2 → Nat :=
  let c512_i32_r0 : BitVec 32 := 512#32
  let true_47_r0 : BitVec 1 := 1#1
  let c1_i32_46_r0 : BitVec 32 := 1#32
  let v48_r0 : BitVec 32 := Scalar.subi v47_4_r0 c1_i32_46_r0
  let v49_r0 : BitVec 32 := Scalar.select true_47_r0 v48_r0 v47_4_r0
  let c_m1_i32_48_r0 : BitVec 32 := 4294967295#32
  let v50_r0 : BitVec 1 := Scalar.cmpi .eq v49_r0 c_m1_i32_48_r0
  let c7_i32_49_r0 : BitVec 32 := 7#32
  let v51_r0 : BitVec 32 := Scalar.select v50_r0 c7_i32_49_r0 v49_r0
  let c0_i32_50_r0 : BitVec 32 := 0#32
  let v52_r0 : BitVec 32 := Scalar.addi v51_r0 c0_i32_50_r0
  let v79_r0 : BitVec 32 := Scalar.muli c512_i32_r0 v52_r0
  let c0_i32_76_r0 : BitVec 32 := 0#32
  ![v79_r0.toNat, 0]

def k0_chk5 (v47_4_r0 : BitVec 32) : Prop :=
  (∀ a, (k0_off24 v47_4_r0) a + S512x64.size a ≤ S4096x64.size a)
theorem k0_off24_inb : ∀ (v47_4_r0 : BitVec 32) (k0_hw5 : k0_chk5 v47_4_r0), ∀ a, (k0_off24 v47_4_r0) a + S512x64.size a ≤ S4096x64.size a := fun v47_4_r0 k0_hw5 => k0_hw5

def k0_off25 (v47_3_r0 : BitVec 32) : Fin 3 → Nat :=
  let c2_i32_r0 : BitVec 32 := 2#32
  let v78_r0 : BitVec 32 := Scalar.remui v47_3_r0 c2_i32_r0
  let c0_i32_77_r0 : BitVec 32 := 0#32
  let c0_i32_78_r0 : BitVec 32 := 0#32
  ![v78_r0.toNat, 0, 0]

def k0_chk4 (v47_3_r0 : BitVec 32) : Prop :=
  (∀ a, (k0_off23 v47_3_r0) a + S1.size a ≤ S2.size a) ∧
  (∀ a, (k0_off25 v47_3_r0) a + S1x512x64.size a ≤ S2x512x64.size a)
theorem k0_off23_inb : ∀ (v47_3_r0 : BitVec 32) (k0_hw4 : k0_chk4 v47_3_r0), ∀ a, (k0_off23 v47_3_r0) a + S1.size a ≤ S2.size a := fun v47_3_r0 k0_hw4 => k0_hw4.1
theorem k0_off25_inb : ∀ (v47_3_r0 : BitVec 32) (k0_hw4 : k0_chk4 v47_3_r0), ∀ a, (k0_off25 v47_3_r0) a + S1x512x64.size a ≤ S2x512x64.size a := fun v47_3_r0 k0_hw4 => k0_hw4.2

abbrev stage0_0 : Fin 1 → Memref sig .tc .vmem S512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x512 : Shape := ⟨2, ![4096, 512]⟩
abbrev S4096x4096 : Shape := ⟨2, ![4096, 4096]⟩
abbrev S64x512 : Shape := ⟨2, ![64, 512]⟩
abbrev S64 : Shape := ⟨1, ![64]⟩
abbrev S_ : Shape := ⟨0, ![]⟩
abbrev S512x64 : Shape := ⟨2, ![512, 64]⟩
abbrev S4096x64 : Shape := ⟨2, ![4096, 64]⟩
abbrev S1x64 : Shape := ⟨2, ![1, 64]⟩

abbrev nBuf : Space → Nat
  | .hbm => 17
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S64x512, .f32⟩
  | .hbm, ⟨3, _⟩ => ⟨S64, .f32⟩
  | .hbm, ⟨4, _⟩ => ⟨S_, .f32⟩
  | .hbm, ⟨5, _⟩ => ⟨S512x64, .f32⟩
  | .hbm, ⟨6, _⟩ => ⟨S4096x64, .f32⟩
  | .hbm, ⟨7, _⟩ => ⟨S4096x64, .f32⟩
  | .hbm, ⟨8, _⟩ => ⟨S1x64, .f32⟩
  | .hbm, ⟨9, _⟩ => ⟨S4096x64, .f32⟩
  | .hbm, ⟨10, _⟩ => ⟨S4096x64, .f32⟩
  | .hbm, ⟨11, _⟩ => ⟨S_, .f32⟩
  | .hbm, ⟨12, _⟩ => ⟨S4096x64, .f32⟩
  | .hbm, ⟨13, _⟩ => ⟨S4096x64, .i1⟩
  | .hbm, ⟨14, _⟩ => ⟨S4096x64, .f32⟩
  | .hbm, ⟨15, _⟩ => ⟨S4096x64, .f32⟩
  | .hbm, ⟨16, _⟩ => ⟨S4096x64, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Proof.Names.lean ====
/-
  Names for what the kernel's transfers move, and the words its loop carries in closed form.

  The kernel keeps four blocks of `adj` (512 rows each) in a ring of four VMEM slots, and two result blocks in a ring of
  two slots. Its loop carries five counters as words; before trip `k` they are functions of `k`. With those closed
  forms every slice the kernel cuts is one of a few named memrefs: block `b` of `adj`, block `b` of the result,
  slot `s` of a ring, a slot's semaphore.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Ring
public import Idealize.ShloMosaic.Lib.Decide
public import Idealize.ShloMosaic.Lib.Tactic

@[expose] public section

noncomputable section

namespace Cert.Proof.Gcn

open Cert.KernelIdeal Cert.KernelIdeal.Gen
open Idealize.ShloMosaic
open Idealize.ShloMosaic.TcCoe Idealize.ShloMosaic.Tactic
open Idealize.SL Idealize.SL.Sem

/-! ## The arrays and buffers -/

/-- `seq`, `adj` and the result in HBM; -/
abbrev seqM : Memref sig .tc .hbm S4096x512 .f32 := Memref.whole main_arg0
abbrev adjM : Memref sig .tc .hbm S4096x4096 .f32 := Memref.whole main_arg1
abbrev outM : Memref sig .tc .hbm S4096x64 .f32 := Memref.whole main_v3
/-- the features `seq · Wᵀ` and the copy of `seq` in VMEM; -/
abbrev ftsM : Memref sig .tc .vmem S4096x64 .f32 := Memref.whole cc0_scratch0
abbrev sqM : Memref sig .tc .vmem S4096x512 .f32 := Memref.whole cc0_scratch1
/-- the ring of `adj` blocks and the ring of result blocks. -/
abbrev inM : Memref sig .tc .vmem S4x512x4096 .f32 := Memref.whole cc0_scoped0
abbrev obM : Memref sig .tc .vmem S2x512x64 .f32 := Memref.whole cc0_scoped2

/-! ## Offsets -/

abbrev adjOff (b : Fin 8) : Fin 2 → Nat := ![512 * b.val, 0]
theorem adjOff_inb : ∀ (b : Fin 8) (a), adjOff b a + S512x4096.size a ≤ S4096x4096.size a := by decide
abbrev outOff (b : Fin 8) : Fin 2 → Nat := ![512 * b.val, 0]
theorem outOff_inb : ∀ (b : Fin 8) (a), outOff b a + S512x64.size a ≤ S4096x64.size a := by decide
abbrev inOff (s : Fin 4) : Fin 3 → Nat := ![s.val, 0, 0]
theorem inOff_inb : ∀ (s : Fin 4) (a), inOff s a + S1x512x4096.size a ≤ S4x512x4096.size a := by decide
abbrev obOff (s : Fin 2) : Fin 3 → Nat := ![s.val, 0, 0]
theorem obOff_inb : ∀ (s : Fin 2) (a), obOff s a + S1x512x64.size a ≤ S2x512x64.size a := by decide
abbrev insOff (s : Fin 4) : Fin 1 → Nat := ![s.val]
theorem insOff_inb : ∀ (s : Fin 4) (a), insOff s a + S1.size a ≤ S4.size a := by decide
abbrev obsOff (s : Fin 2) : Fin 1 → Nat := ![s.val]
theorem obsOff_inb : ∀ (s : Fin 2) (a), obsOff s a + S1.size a ≤ S2.size a := by decide

/-! ## Blocks, slots and semaphores -/

/-- Block `b` of `adj`: rows `512 b … 512 b + 511`. -/
def adjB (b : Fin 8) : Memref sig .tc .hbm S512x4096 .f32 :=
  adjM.slice (Rect.unit (s := S4096x4096) (adjOff b) S512x4096.size (adjOff_inb b)) (fun _ => rfl)
/-- Block `b` of the result. -/
def outB (b : Fin 8) : Memref sig .tc .hbm S512x64 .f32 :=
  outM.slice (Rect.unit (s := S4096x64) (outOff b) S512x64.size (outOff_inb b)) (fun _ => rfl)
/-- Slot `s` of the ring of `adj` blocks. -/
def inS (s : Fin 4) : Memref sig .tc .vmem S512x4096 .f32 :=
  (inM.slice (Rect.unit (s := S4x512x4096) (inOff s) S1x512x4096.size (inOff_inb s)) (fun _ => rfl)).squeeze S512x4096 squeezes_S1x512x4096_S512x4096
/-- Slot `s` of the ring of result blocks. -/
def obS (s : Fin 2) : Memref sig .tc .vmem S512x64 .f32 :=
  (obM.slice (Rect.unit (s := S2x512x64) (obOff s) S1x512x64.size (obOff_inb s)) (fun _ => rfl)).squeeze S512x64 squeezes_S1x512x64_S512x64
/-- Their semaphores. -/
def inSem (s : Fin 4) : DmaSems sig S_ := (cc0_scoped1.slice (Rect.unit (s := S4) (insOff s) S1.size (insOff_inb s))).squeeze S_ squeezes_S1_S_
def obSem (s : Fin 2) : DmaSems sig S_ := (cc0_scoped3.slice (Rect.unit (s := S2) (obsOff s) S1.size (obsOff_inb s))).squeeze S_ squeezes_S1_S_

instance (s : Fin 4) : ClosedOff (inOff s) := ⟨inOff s, rfl⟩
instance (s : Fin 2) : ClosedOff (obOff s) := ⟨obOff s, rfl⟩
instance (b : Fin 8) : ClosedOff (adjOff b) := ⟨adjOff b, rfl⟩
instance (b : Fin 8) : ClosedOff (outOff b) := ⟨outOff b, rfl⟩

/-! ## The words the loop carries -/

/-- Before trip `k`: the number of `adj` blocks issued, of `adj` blocks used, of result blocks issued, of result blocks
    drained, and the block the trip computes. -/
def wIss (k : ℕ) : BitVec 32 := BitVec.ofNat 32 (min (k + 3) 8)
def wUse (k : ℕ) : BitVec 32 := BitVec.ofNat 32 k
def wPut (k : ℕ) : BitVec 32 := BitVec.ofNat 32 k
def wOld (k : ℕ) : BitVec 32 := BitVec.ofNat 32 (k - 1)
def wBlk (k : ℕ) : BitVec 32 := BitVec.ofNat 32 (k % 8)
/-- The carried tuple before trip `k`. -/
abbrev accAt (k : ℕ) : BitVec 32 × BitVec 32 × BitVec 32 × BitVec 32 × BitVec 32 := (wIss k, wUse k, wPut k, wOld k, wBlk k)

theorem trips_eq : k0_t1_loop.trips = 8 := by decide

section Chain
variable (k : Fin k0_t1_loop.trips)

theorem off9_eq : k0_off9 (wIss k.val) = insOff (Ring.sl 4 (min (k.val + 3) 8)) := by revert k; decide +kernel
theorem off10_eq : k0_off10 (wIss k.val) = inOff (Ring.sl 4 (min (k.val + 3) 8)) := by revert k; decide +kernel
theorem off11_eq (hk : k.val + 3 < 8) : k0_off11 (wBlk k.val) = adjOff (Ring.bk 8 (k.val + 3)) := by revert k; decide +kernel
theorem off12_eq : k0_off12 (wUse k.val) = insOff (Ring.sl 4 k.val) := by revert k; decide +kernel
theorem off13_eq : k0_off13 (wUse k.val) = inOff (Ring.sl 4 k.val) := by revert k; decide +kernel
theorem off14_eq : k0_off14 (wBlk k.val) = adjOff (Ring.bk 8 k.val) := by revert k; decide +kernel
theorem off15_eq : k0_off15 (wUse k.val) = inOff (Ring.sl 4 k.val) := by revert k; decide +kernel
theorem off16_eq : k0_off16 (wPut k.val) = obOff (Ring.sl 2 k.val) := by revert k; decide +kernel
theorem off17_eq : k0_off17 (wPut k.val) = obsOff (Ring.sl 2 k.val) := by revert k; decide +kernel
theorem off18_eq : k0_off18 (wBlk k.val) = outOff (Ring.bk 8 k.val) := by revert k; decide +kernel
theorem off19_eq : k0_off19 (wPut k.val) = obOff (Ring.sl 2 k.val) := by revert k; decide +kernel
theorem off20_eq : k0_off20 (wOld k.val) = obsOff (Ring.sl 2 (k.val - 1)) := by revert k; decide +kernel
theorem off21_eq (hk : 1 ≤ k.val) : k0_off21 (wBlk k.val) = outOff (Ring.bk 8 (k.val - 1)) := by revert k; decide +kernel
theorem off22_eq : k0_off22 (wOld k.val) = obOff (Ring.sl 2 (k.val - 1)) := by revert k; decide +kernel

/-- The conditions the trip decides. -/
theorem cond3_of_lt (hk : k.val + 3 < 8) : k0_cond3 k (wBlk k.val) = 1#1 := by revert k; decide +kernel
theorem cond3_of_le (hk : 8 ≤ k.val + 3) : ¬ k0_cond3 k (wBlk k.val) = 1#1 := by revert k; decide +kernel
theorem cond4_all : k0_cond4 k (wBlk k.val) = 1#1 := by revert k; decide +kernel
theorem cond8_all : k0_cond8 k (wBlk k.val) = 1#1 := by revert k; decide +kernel
theorem cond10_of_pos (hk : 1 ≤ k.val) : k0_cond10 k (wBlk k.val) = 1#1 := by revert k; decide +kernel
theorem cond10_zero (hk : k.val = 0) : ¬ k0_cond10 k (wBlk k.val) = 1#1 := by revert k; decide +kernel
theorem first_zero (hk : k.val = 0) :
    Scalar.cmpi .ne (Scalar.extui (Scalar.cmpi .eq (Scalar.addi (wBlk k.val) 0#32) 0#32)) 0#32 = 1#1 := by revert k; decide +kernel
theorem first_pos (hk : 1 ≤ k.val) :
    ¬ Scalar.cmpi .ne (Scalar.extui (Scalar.cmpi .eq (Scalar.addi (wBlk k.val) 0#32) 0#32)) 0#32 = 1#1 := by revert k; decide +kernel

/-- The side conditions the trip assumes. -/
theorem chk1_all : k0_chk1 k (wIss k.val) (wUse k.val) (wPut k.val) (wOld k.val) (wBlk k.val) := by revert k; decide +kernel
theorem chk2_all : k0_chk2 (wUse k.val) := by revert k; decide +kernel
theorem chk3_all : k0_chk3 (wPut k.val) := by revert k; decide +kernel

instance : ClosedOff (k0_off15 (wUse k.val)) := ⟨inOff (Ring.sl 4 k.val), off15_eq k⟩
instance : ClosedOff (k0_off16 (wPut k.val)) := ⟨obOff (Ring.sl 2 k.val), off16_eq k⟩

end Chain

theorem chk4_end : k0_chk4 (wOld 8) := by decide +kernel
theorem chk5_end : k0_chk5 (wBlk 8) := by decide +kernel

/-! ## Each slice the body cuts is one of the named memrefs -/

theorem inSem_congr {off : Fin 1 → Nat} {s : Fin 4} (e : off = insOff s) (hh) :
    (cc0_scoped1.slice (Rect.unit (s := S4) off S1.size hh)).squeeze S_ squeezes_S1_S_ = inSem s :=
  congrArg (fun A : DmaSems sig S1 => A.squeeze S_ squeezes_S1_S_) (SemArray.slice_unit_congr _ e _ _)
theorem obSem_congr {off : Fin 1 → Nat} {s : Fin 2} (e : off = obsOff s) (hh) :
    (cc0_scoped3.slice (Rect.unit (s := S2) off S1.size hh)).squeeze S_ squeezes_S1_S_ = obSem s :=
  congrArg (fun A : DmaSems sig S1 => A.squeeze S_ squeezes_S1_S_) (SemArray.slice_unit_congr _ e _ _)
theorem inS_congr {off : Fin 3 → Nat} {s : Fin 4} (e : off = inOff s) (hh hs) :
    (inM.slice (Rect.unit (s := S4x512x4096) off S1x512x4096.size hh) hs).squeeze S512x4096 squeezes_S1x512x4096_S512x4096 = inS s :=
  congrArg (fun M : Memref sig .tc .vmem S1x512x4096 .f32 => M.squeeze S512x4096 squeezes_S1x512x4096_S512x4096) (Memref.slice_unit_congr _ e _ _ _ _)
theorem obS_congr {off : Fin 3 → Nat} {s : Fin 2} (e : off = obOff s) (hh hs) :
    (obM.slice (Rect.unit (s := S2x512x64) off S1x512x64.size hh) hs).squeeze S512x64 squeezes_S1x512x64_S512x64 = obS s :=
  congrArg (fun M : Memref sig .tc .vmem S1x512x64 .f32 => M.squeeze S512x64 squeezes_S1x512x64_S512x64) (Memref.slice_unit_congr _ e _ _ _ _)
theorem adjB_congr {off : Fin 2 → Nat} {b : Fin 8} (e : off = adjOff b) (hh hs) :
    adjM.slice (Rect.unit (s := S4096x4096) off S512x4096.size hh) hs = adjB b := Memref.slice_unit_congr _ e _ _ _ (fun _ => rfl)
theorem outB_congr {off : Fin 2 → Nat} {b : Fin 8} (e : off = outOff b) (hh hs) :
    outM.slice (Rect.unit (s := S4096x64) off S512x64.size hh) hs = outB b := Memref.slice_unit_congr _ e _ _ _ (fun _ => rfl)

section Canon

/-- The three issues before the loop. -/
@[sl_canon] theorem inSemP0 (hh) : (cc0_scoped1.slice (Rect.unit (s := S4) k0_off1 S1.size hh)).squeeze S_ squeezes_S1_S_ = inSem 0 := inSem_congr (by decide +kernel) _
@[sl_canon] theorem inSemP1 (hh) : (cc0_scoped1.slice (Rect.unit (s := S4) k0_off3 S1.size hh)).squeeze S_ squeezes_S1_S_ = inSem 1 := inSem_congr (by decide +kernel) _
@[sl_canon] theorem inSemP2 (hh) : (cc0_scoped1.slice (Rect.unit (s := S4) k0_off6 S1.size hh)).squeeze S_ squeezes_S1_S_ = inSem 2 := inSem_congr (by decide +kernel) _
@[sl_canon] theorem inSP0 (hh hs) : (inM.slice (Rect.unit (s := S4x512x4096) k0_off2 S1x512x4096.size hh) hs).squeeze S512x4096 squeezes_S1x512x4096_S512x4096 = inS 0 := inS_congr (by decide +kernel) _ _
@[sl_canon] theorem inSP1 (hh hs) : (inM.slice (Rect.unit (s := S4x512x4096) k0_off4 S1x512x4096.size hh) hs).squeeze S512x4096 squeezes_S1x512x4096_S512x4096 = inS 1 := inS_congr (by decide +kernel) _ _
@[sl_canon] theorem inSP2 (hh hs) : (inM.slice (Rect.unit (s := S4x512x4096) k0_off7 S1x512x4096.size hh) hs).squeeze S512x4096 squeezes_S1x512x4096_S512x4096 = inS 2 := inS_congr (by decide +kernel) _ _
@[sl_canon] theorem adjBP0 (hh hs) : adjM.slice (Rect.unit (s := S4096x4096) ![0, 0] S512x4096.size hh) hs = adjB 0 := adjB_congr (by decide +kernel) _ _
@[sl_canon] theorem adjBP1 (hh hs) : adjM.slice (Rect.unit (s := S4096x4096) k0_off5 S512x4096.size hh) hs = adjB 1 := adjB_congr (by decide +kernel) _ _
@[sl_canon] theorem adjBP2 (hh hs) : adjM.slice (Rect.unit (s := S4096x4096) k0_off8 S512x4096.size hh) hs = adjB 2 := adjB_congr (by decide +kernel) _ _

variable (k : Fin k0_t1_loop.trips)

/-- Trip `k`'s issue of `adj` block `k + 3`; -/
@[sl_canon] theorem inSemI (hk : k.val + 3 < 8) (hh) :
    (cc0_scoped1.slice (Rect.unit (s := S4) (k0_off9 (wIss k.val)) S1.size hh)).squeeze S_ squeezes_S1_S_ = inSem (Ring.sl 4 (k.val + 3)) :=
  inSem_congr ((off9_eq k).trans (by rw [Nat.min_eq_left (by omega)])) _
@[sl_canon] theorem inSI (hk : k.val + 3 < 8) (hh hs) :
    (inM.slice (Rect.unit (s := S4x512x4096) (k0_off10 (wIss k.val)) S1x512x4096.size hh) hs).squeeze S512x4096 squeezes_S1x512x4096_S512x4096 = inS (Ring.sl 4 (k.val + 3)) :=
  inS_congr ((off10_eq k).trans (by rw [Nat.min_eq_left (by omega)])) _ _
@[sl_canon] theorem adjBI (hk : k.val + 3 < 8) (hh hs) :
    adjM.slice (Rect.unit (s := S4096x4096) (k0_off11 (wBlk k.val)) S512x4096.size hh) hs = adjB (Ring.bk 8 (k.val + 3)) := adjB_congr (off11_eq k hk) _ _
/-- its wait for block `k`; -/
@[sl_canon] theorem inSemW (hh) :
    (cc0_scoped1.slice (Rect.unit (s := S4) (k0_off12 (wUse k.val)) S1.size hh)).squeeze S_ squeezes_S1_S_ = inSem (Ring.sl 4 k.val) := inSem_congr (off12_eq k) _
@[sl_canon] theorem inSW (hh hs) :
    (inM.slice (Rect.unit (s := S4x512x4096) (k0_off13 (wUse k.val)) S1x512x4096.size hh) hs).squeeze S512x4096 squeezes_S1x512x4096_S512x4096 = inS (Ring.sl 4 k.val) := inS_congr (off13_eq k) _ _
@[sl_canon] theorem adjBW (hh hs) :
    adjM.slice (Rect.unit (s := S4096x4096) (k0_off14 (wBlk k.val)) S512x4096.size hh) hs = adjB (Ring.bk 8 k.val) := adjB_congr (off14_eq k) _ _
/-- its issue of result block `k`; -/
@[sl_canon] theorem obSemI (hh) :
    (cc0_scoped3.slice (Rect.unit (s := S2) (k0_off17 (wPut k.val)) S1.size hh)).squeeze S_ squeezes_S1_S_ = obSem (Ring.sl 2 k.val) := obSem_congr (off17_eq k) _
@[sl_canon] theorem obSI (hh hs) :
    (obM.slice (Rect.unit (s := S2x512x64) (k0_off19 (wPut k.val)) S1x512x64.size hh) hs).squeeze S512x64 squeezes_S1x512x64_S512x64 = obS (Ring.sl 2 k.val) := obS_congr (off19_eq k) _ _
@[sl_canon] theorem outBI (hh hs) :
    outM.slice (Rect.unit (s := S4096x64) (k0_off18 (wBlk k.val)) S512x64.size hh) hs = outB (Ring.bk 8 k.val) := outB_congr (off18_eq k) _ _
/-- its wait for result block `k - 1`. -/
@[sl_canon] theorem obSemW (hh) :
    (cc0_scoped3.slice (Rect.unit (s := S2) (k0_off20 (wOld k.val)) S1.size hh)).squeeze S_ squeezes_S1_S_ = obSem (Ring.sl 2 (k.val - 1)) := obSem_congr (off20_eq k) _
@[sl_canon] theorem obSW (hh hs) :
    (obM.slice (Rect.unit (s := S2x512x64) (k0_off22 (wOld k.val)) S1x512x64.size hh) hs).squeeze S512x64 squeezes_S1x512x64_S512x64 = obS (Ring.sl 2 (k.val - 1)) := obS_congr (off22_eq k) _ _
@[sl_canon] theorem outBW (hk : 1 ≤ k.val) (hh hs) :
    outM.slice (Rect.unit (s := S4096x64) (k0_off21 (wBlk k.val)) S512x64.size hh) hs = outB (Ring.bk 8 (k.val - 1)) := outB_congr (off21_eq k hk) _ _

/-- The wait after the loop, for the last result block. -/
@[sl_canon] theorem obSemE (hh) :
    (cc0_scoped3.slice (Rect.unit (s := S2) (k0_off23 (wOld 8)) S1.size hh)).squeeze S_ squeezes_S1_S_ = obSem 1 := obSem_congr (by decide +kernel) _
@[sl_canon] theorem obSE (hh hs) :
    (obM.slice (Rect.unit (s := S2x512x64) (k0_off25 (wOld 8)) S1x512x64.size hh) hs).squeeze S512x64 squeezes_S1x512x64_S512x64 = obS 1 := obS_congr (by decide +kernel) _ _
@[sl_canon] theorem outBE (hh hs) :
    outM.slice (Rect.unit (s := S4096x64) (k0_off24 (wBlk 8)) S512x64.size hh) hs = outB 7 := outB_congr (by decide +kernel) _ _

end Canon

end Cert.Proof.Gcn

end
-- ==== Proof.Pieces.lean ====
/-
  What the kernel holds while it runs: the blocks of `adj` and of the result, the slots of its two rings, each at rest
  or under a transfer; what a slot or a result block reads; and the state of all of them before trip `k` of the loop.
-/
module

public import proofs.«01_k».proof.Proof.Names
public import Idealize.ShloMosaic.Lib.Pipeline.Routed
public import Idealize.ShloMosaic.Lib.Ring.Trips
public import Idealize.ShloMosaic.Lib.VecWindow

@[expose] public section

noncomputable section

namespace Cert.Proof.Gcn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The ghost state: the pipeline's, and a counter per transfer. -/
abbrev UU : Type := UR sig nD τ × Counters
local notation "𝕄" => MT nD τ sig Unit (Elt F) ℕ UU ℕ
abbrev 𝒱₀ : Variants := Variants.none

/-! ## Pieces -/

section Pieces
variable (c : Dev nD) (XA : Buf (Elt F) (adjM.view.loc (c : Thread nD τ))) (XS : Buf (Elt F) (seqM.view.loc (c : Thread nD τ)))

/-- A slot's semaphore at zero; the semaphore of the copy of `seq`. -/
abbrev inC (s : Fin 4) : sProp 𝕄 := semVal ((c : Thread nD τ), SemLoc.dma (inSem s).sem) 0
abbrev obC (s : Fin 2) : sProp 𝕄 := semVal ((c : Thread nD τ), SemLoc.dma (obSem s).sem) 0
abbrev sqC : sProp 𝕄 := semVal ((c : Thread nD τ), SemLoc.dma cc0_scratch2.sem) 0
/-- A slot held at contents `f`; -/
abbrev inP (s : Fin 4) (f : Buf (Elt F) ((inS s).view.loc (c : Thread nD τ))) : sProp 𝕄 :=
  (inS s).view.loc (c : Thread nD τ) ↦[(inS s).view.set]{fullShare} f
abbrev obP (s : Fin 2) (f : Buf (Elt F) ((obS s).view.loc (c : Thread nD τ))) : sProp 𝕄 :=
  (obS s).view.loc (c : Thread nD τ) ↦[(obS s).view.set]{fullShare} f
/-- a block of `adj`, of the result, and the three whole buffers. -/
abbrev adjP (b : Fin 8) : sProp 𝕄 := (adjB b).view.loc (c : Thread nD τ) ↦[(adjB b).view.set]{fullShare} XA
abbrev outP (b : Fin 8) (f : Buf (Elt F) ((outB b).view.loc (c : Thread nD τ))) : sProp 𝕄 :=
  (outB b).view.loc (c : Thread nD τ) ↦[(outB b).view.set]{fullShare} f
abbrev seqP : sProp 𝕄 := seqM.view.loc (c : Thread nD τ) ↦[seqM.view.set]{fullShare} XS
abbrev sqP (f : Buf (Elt F) (sqM.view.loc (c : Thread nD τ))) : sProp 𝕄 := sqM.view.loc (c : Thread nD τ) ↦[sqM.view.set]{fullShare} f
abbrev ftsP (f : Buf (Elt F) (ftsM.view.loc (c : Thread nD τ))) : sProp 𝕄 := ftsM.view.loc (c : Thread nD τ) ↦[ftsM.view.set]{fullShare} f

/-- What the transfer of block `b` leaves in slot `s`, and that transfer under way. -/
abbrev landed (s : Fin 4) (b : Fin 8) (f : Buf (Elt F) ((inS s).view.loc (c : Thread nD τ))) : Buf (Elt F) ((inS s).view.loc (c : Thread nD τ)) :=
  (inS s).view.writes (Elt F) f [⟨Rect.whole S512x4096, ReadAs.same.apply ((adjB b).view.read (Elt F) XA)⟩]
abbrev inF (s : Fin 4) (b : Fin 8) (f : Buf (Elt F) ((inS s).view.loc (c : Thread nD τ))) : sProp 𝕄 :=
  Transfers.Flight countersEmb (c : Thread nD τ) (SemLoc.dma (inSem s).sem) () 262144 iprop(inP c s (landed c XA s b f) ∗ adjP c XA b)
/-- The same for result block `b`, written back from slot `s` holding `g`. -/
abbrev placed (s : Fin 2) (b : Fin 8) (f : Buf (Elt F) ((outB b).view.loc (c : Thread nD τ))) (g : Buf (Elt F) ((obS s).view.loc (c : Thread nD τ))) : Buf (Elt F) ((outB b).view.loc (c : Thread nD τ)) :=
  (outB b).view.writes (Elt F) f [⟨Rect.whole S512x64, ReadAs.same.apply ((obS s).view.read (Elt F) g)⟩]
abbrev obF (s : Fin 2) (b : Fin 8) (f : Buf (Elt F) ((outB b).view.loc (c : Thread nD τ))) (g : Buf (Elt F) ((obS s).view.loc (c : Thread nD τ))) : sProp 𝕄 :=
  Transfers.Flight countersEmb (c : Thread nD τ) (SemLoc.dma (obSem s).sem) () 8192 iprop(outP c b (placed c s b f g) ∗ obP c s g)
/-- The copy of `seq` under way. -/
abbrev sqF (f : Buf (Elt F) (sqM.view.loc (c : Thread nD τ))) : sProp 𝕄 :=
  Transfers.Flight countersEmb (c : Thread nD τ) (SemLoc.dma cc0_scratch2.sem) () 262144
    iprop(sqP c (sqM.view.writes (Elt F) f [⟨Rect.whole S4096x512, ReadAs.same.apply (seqM.view.read (Elt F) XS)⟩]) ∗ seqP c XS)

end Pieces

/-! ## What is read -/

section Reads

/-- A load of slot `s` through the whole ring, its unit axis dropped, reads the slot. -/
theorem load_inS (s : Fin 4) {off : Fin 3 → Nat} (e : off = inOff s) (inb : ∀ a, off a + S1x512x4096.size a ≤ S4x512x4096.size a)
    (f : inM.view.ty.Contents (Elt F)) :
    k0_pay2 (F := F) (inM.view.readAt (Elt F) (Rect.unit (s := S4x512x4096) off S1x512x4096.size inb).toLoadRect f) = (inS s).view.read (Elt F) f := by
  subst e; rfl

/-- Slot `s` of the result ring after a store through the whole ring reads the stored block, its unit axis dropped. -/
theorem read_obS_store (s : Fin 2) {off : Fin 3 → Nat} (e : off = obOff s) (inb : ∀ a, off a + S1x512x64.size a ≤ S2x512x64.size a)
    (f : obM.view.ty.Contents (Elt F)) (w : S1x512x64.Idx → Elt F .f32) :
    (obS s).view.read (Elt F) (View.write (Elt F) (obM.access (Rect.unit (s := S2x512x64) off S1x512x64.size inb)) f w Finset.univ)
      = shapeCast S512x64 w rfl := by
  subst e
  funext y
  exact congrFun (View.read_write_univ (Val := Elt F) (v := obM.access (Rect.unit (s := S2x512x64) (obOff s) S1x512x64.size inb)) f w) _

variable (c : Dev nD) (XA : Buf (Elt F) (adjM.view.loc (c : Thread nD τ))) (XS : Buf (Elt F) (seqM.view.loc (c : Thread nD τ)))

/-- Block `b` of `adj`, as read; and `seq`. -/
abbrev adjV (b : Fin 8) : S512x4096.Idx → Elt F .f32 := (adjB b).view.read (Elt F) XA
abbrev seqV : S4096x512.Idx → Elt F .f32 := seqM.view.read (Elt F) XS
/-- The features. -/
abbrev ftsV (x : S4096x512.Idx → Elt F .f32) (w : S512x64.Idx → Elt F .f32) : S4096x64.Idx → Elt F .f32 := k0_pay1 (F := F) x w
/-- A result block from a block of `adj`, the features, the bias row and PReLU's slope. -/
def resV (A : S512x4096.Idx → Elt F .f32) (y : S4096x64.Idx → Elt F .f32) (b : S1x64.Idx → Elt F .f32) (a : Elt F .f32) : S512x64.Idx → Elt F .f32 :=
  shapeCast S512x64 (k0_pay3 (F := F) A y (constant S512x64 .f32 0#32) b a) rfl

theorem read_landed (s : Fin 4) (b : Fin 8) (f : Buf (Elt F) ((inS s).view.loc (c : Thread nD τ))) :
    (inS s).view.read (Elt F) (landed c XA s b f) = adjV c XA b := View.read_writes_whole _ _ _

theorem read_placed (s : Fin 2) (b : Fin 8) (f : Buf (Elt F) ((outB b).view.loc (c : Thread nD τ))) (g : Buf (Elt F) ((obS s).view.loc (c : Thread nD τ))) :
    (outB b).view.read (Elt F) (placed c s b f g) = (obS s).view.read (Elt F) g := View.read_writes_whole _ _ _

end Reads

/-! ## The state before trip `k` -/

section State
variable (c : Dev nD) (XA : Buf (Elt F) (adjM.view.loc (c : Thread nD τ))) (XS : Buf (Elt F) (seqM.view.loc (c : Thread nD τ)))
  (y : S4096x64.Idx → Elt F .f32) (R : Fin 8 → S512x64.Idx → Elt F .f32)

/-- The slot that carries `adj` block `p`: under transfer while there is such a block, else at rest. -/
abbrev inFree (s : Fin 4) : sProp 𝕄 := iprop((∃ f, inP c s f) ∗ inC c s)
def inRole (p : ℕ) : sProp 𝕄 := if p < 8 then iprop(∃ f, inF c XA (Ring.sl 4 p) (Ring.bk 8 p) f) else inFree c (Ring.sl 4 p)
/-- The slot of the result ring that trip `k` fills is at rest; the other holds block `k - 1` on its way out. -/
abbrev obFree (s : Fin 2) : sProp 𝕄 := iprop((∃ f, obP c s f) ∗ obC c s)
def obRole (k : ℕ) : sProp 𝕄 :=
  if 1 ≤ k then iprop(∃ f g, ⌜(obS (Ring.sl 2 (k - 1))).view.read (Elt F) g = R (Ring.bk 8 (k - 1))⌝ ∗ obF c (Ring.sl 2 (k - 1)) (Ring.bk 8 (k - 1)) f g)
  else obFree c (Ring.sl 2 (k + 1))
/-- `seq`: its copy is under way before trip 0 and done after. -/
abbrev seqDone : sProp 𝕄 := iprop(seqP c XS ∗ (∃ f, sqP c f) ∗ sqC c)
def seqRole (k : ℕ) : sProp 𝕄 := if 1 ≤ k then seqDone c XS else iprop(∃ f, sqF c XS f)
/-- The features' buffer holds `y` after trip 0. -/
def ftsRole (k : ℕ) : sProp 𝕄 := iprop(∃ f, ⌜1 ≤ k → ftsM.view.read (Elt F) f = y⌝ ∗ ftsP c f)
/-- A result block written, holding `R b`; a result block still to write. -/
abbrev outDone (b : Fin 8) : sProp 𝕄 := iprop(∃ f, ⌜(outB b).view.read (Elt F) f = R b⌝ ∗ outP c b f)
abbrev outTodo (b : Fin 8) : sProp 𝕄 := iprop(∃ f, outP c b f)

/-- All of it before trip `k`. -/
def stateAt (k : ℕ) : sProp 𝕄 :=
  iprop(seqRole c XS k ∗ ftsRole c y k
    ∗ bigSep (Ring.homeSet 3 k) (adjP c XA)
    ∗ inRole c XA k ∗ inRole c XA (k + 1) ∗ inRole c XA (k + 2) ∗ inFree c (Ring.sl 4 (k + 3))
    ∗ obFree c (Ring.sl 2 k) ∗ obRole c R k
    ∗ bigSep (Ring.rangeSet 8 0 (k - 1)) (outDone c R) ∗ bigSep (Ring.rangeSet 8 k 8) (outTodo c)
    ∗ ∃ W, owes (c : Thread nD τ) 0 W)

end State

end Cert.Proof.Gcn

end
-- ==== Proof.Trip.lean ====
/-
  One trip of the kernel's loop, in its three forms: trip 0 (which also waits for `seq` and computes the features),
  the trips that start a transfer of `adj` block `k + 3` and the last three, which do not.
-/
module

public import proofs.«01_k».proof.Proof.Pieces

@[expose] public section

noncomputable section

namespace Cert.Proof.Gcn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section Trip
variable (c : Dev nD) (XA : Buf (Elt F) (adjM.view.loc (c : Thread nD τ))) (XS : Buf (Elt F) (seqM.view.loc (c : Thread nD τ)))
  (arg2 : Memref sig .tc .vmem S512x64 .f32) (harg2 : arg2.IsWhole)
  (arg3 : Memref sig .tc .vmem S1x64 .f32) (harg3 : arg3.IsWhole)
  (arg4 : Memref sig .tc .smem S1x1 .f32) (harg4 : arg4.IsWhole)

/-- The three staged inputs: `Wᵀ`, the bias row, PReLU's slope; -/
abbrev wP (g : Buf (Elt F) (arg2.view.loc (c : Thread nD τ))) : sProp 𝕄 := arg2.view.loc (c : Thread nD τ) ↦[arg2.view.set]{fullShare} g
abbrev bP (g : Buf (Elt F) (arg3.view.loc (c : Thread nD τ))) : sProp 𝕄 := arg3.view.loc (c : Thread nD τ) ↦[arg3.view.set]{fullShare} g
abbrev aP (g : Buf (Elt F) (arg4.view.loc (c : Thread nD τ))) : sProp 𝕄 := arg4.view.loc (c : Thread nD τ) ↦[arg4.view.set]{fullShare} g
/-- and what the kernel loads of them. -/
abbrev wV (g : Buf (Elt F) (arg2.view.loc (c : Thread nD τ))) : S512x64.Idx → Elt F .f32 := arg2.view.read (Elt F) g
abbrev bV (g : Buf (Elt F) (arg3.view.loc (c : Thread nD τ))) : S1x64.Idx → Elt F .f32 := arg3.view.read (Elt F) g
abbrev aV (g : Buf (Elt F) (arg4.view.loc (c : Thread nD τ))) : Elt F .f32 := arg4.view.read (Elt F) g (Shape.Idx.first (by decide))

/-- Trip `k` at the closed forms of the carried words, and the whole body. -/
abbrev tripG (k : Fin k0_t1_loop.trips) (v9 v14 : BitVec 32) :=
  k0_t1_body (F := F) seqM (Memref.isWhole_whole _) adjM (Memref.isWhole_whole _) arg2 harg2 arg3 harg3 arg4 harg4 outM (Memref.isWhole_whole _)
    ftsM (Memref.isWhole_whole _) sqM (Memref.isWhole_whole _) cc0_scratch2 inM (Memref.isWhole_whole _) cc0_scoped1 obM (Memref.isWhole_whole _) cc0_scoped3 v9 v14 k (accAt k.val)

abbrev bodyG : Prog (TpuEff nD τ sig (Elt F) Λ₀ .tc) PUnit :=
  cc0__outer seqM (Memref.isWhole_whole _) adjM (Memref.isWhole_whole _) arg2 harg2 arg3 harg3 arg4 harg4 outM (Memref.isWhole_whole _)
    ftsM (Memref.isWhole_whole _) sqM (Memref.isWhole_whole _) cc0_scratch2 inM (Memref.isWhole_whole _) cc0_scoped1 obM (Memref.isWhole_whole _) cc0_scoped3

/-- What trip `k` leaves under way: result block `k`, holding the block computed from `adj` block `k` and the features `y`. -/
abbrev obNew (k : ℕ) (g3 : Buf (Elt F) (arg3.view.loc (c : Thread nD τ))) (g4 : Buf (Elt F) (arg4.view.loc (c : Thread nD τ))) (y : S4096x64.Idx → Elt F .f32) : sProp 𝕄 :=
  iprop(∃ f g, ⌜(obS (Ring.sl 2 k)).view.read (Elt F) g = resV (adjV c XA (Ring.bk 8 k)) y (bV c arg3 g3) (aV c arg4 g4)⌝
    ∗ obF c (Ring.sl 2 k) (Ring.bk 8 k) f g)

theorem resV_congr {A A' : S512x4096.Idx → Elt F .f32} {y y' : S4096x64.Idx → Elt F .f32} {b b' : S1x64.Idx → Elt F .f32} {a a' : Elt F .f32}
    (hA : A = A') (hy : y = y') (hb : b = b') (ha : a = a') :
    shapeCast S512x64 (k0_pay3 (F := F) A y (constant S512x64 .f32 0#32) b a) rfl = resV A' y' b' a' := by
  subst hA; subst hy; subst hb; subst ha; rfl

/-- The copy of `seq`, loaded whole after its arrival. -/
theorem load_sq (x : S4096x512.Idx → Elt F .f32) (inb : ∀ a, (![0, 0] : Fin 2 → ℕ) a + S4096x512.size a ≤ S4096x512.size a) :
    sqM.view.readCov (Val := Elt F) [⟨Rect.whole S4096x512, x⟩] (Rect.unit (s := S4096x512) ![0, 0] S4096x512.size inb).toLoadRect = x := by
  unfold View.readCov
  rw [View.readAt_full, View.read_writes_whole]

theorem ftsV_congr {x x' : S4096x512.Idx → Elt F .f32} {w w' : S512x64.Idx → Elt F .f32} (hx : x = x') (hw : w = w') :
    k0_pay1 (F := F) x w = ftsV x' w' := by
  subst hx; subst hw; rfl

/-- The block that trip `k` stores: its slot reads the block computed from what the loads give. -/
theorem read_obNew (k : Fin k0_t1_loop.trips) (g3 g4) {Y y : S4096x64.Idx → Elt F .f32} (hy : Y = y) (fb : Buf (Elt F) ((obS (Ring.sl 2 k.val)).view.loc (c : Thread nD τ)))
    (h2 : k0_chk2 (wUse k.val)) (h3 : k0_chk3 (wPut k.val)) (f : Buf (Elt F) ((inS (Ring.sl 4 k.val)).view.loc (c : Thread nD τ))) (i2 i3 i1 i4 i5) :
    (obS (Ring.sl 2 k.val)).view.read (Elt F) (View.write (Elt F) (obM.access (Rect.unit (s := S2x512x64) (k0_off16 (wPut k.val)) S1x512x64.size i3)) fb
      (k0_pay3 (F := F)
        (k0_pay2 (View.readAt (Elt F) inM.view (Rect.unit (s := S4x512x4096) (k0_off15 (wUse k.val)) S1x512x4096.size i2).toLoadRect (landed c XA (Ring.sl 4 k.val) (Ring.bk 8 k.val) f)))
        Y (constant S512x64 .f32 0#32)
        (View.readAt (Elt F) arg3.view (Rect.unit (s := S1x64) ![0, 0] S1x64.size i1).toLoadRect g3)
        (View.readAt (Elt F) arg4.view (Rect.unit (s := S1x1) ![0, 0] S1x1.size i4).toLoadRect g4 (Shape.Idx.first i5))) Finset.univ)
    = resV (adjV c XA (Ring.bk 8 k.val)) y (bV c arg3 g3) (aV c arg4 g4) := by
  refine (read_obS_store _ (off16_eq k) _ _ _).trans ?_
  exact resV_congr ((load_inS _ (off15_eq k) _ _).trans (read_landed c XA _ _ _)) hy (View.readAt_full _ _ _)
    (congrFun (View.readAt_full _ _ _) _)

/-- A trip that starts the transfer of `adj` block `k + 3`. -/
theorem tripMid (k : Fin k0_t1_loop.trips) (v9 v14) (hk1 : 1 ≤ k.val) (hk3 : k.val + 3 < 8) (g2 g3 g4) (f0 f3 ff fo fb fo' fb' W) :
    iprop(wP c arg2 g2 ∗ bP c arg3 g3 ∗ aP c arg4 g4 ∗ ftsP c ff
      ∗ inF c XA (Ring.sl 4 k.val) (Ring.bk 8 k.val) f0 ∗ inP c (Ring.sl 4 (k.val + 3)) f3 ∗ inC c (Ring.sl 4 (k.val + 3)) ∗ adjP c XA (Ring.bk 8 (k.val + 3))
      ∗ outP c (Ring.bk 8 k.val) fo ∗ obP c (Ring.sl 2 k.val) fb ∗ obC c (Ring.sl 2 k.val) ∗ obF c (Ring.sl 2 (k.val - 1)) (Ring.bk 8 (k.val - 1)) fo' fb'
      ∗ owes (c : Thread nD τ) 0 W)
      ⊢ wp frame (wpE (defs₀ (F := F)) 𝒱₀ (c : Thread nD τ) none) Set.univ (tripG arg2 harg2 arg3 harg3 arg4 harg4 k v9 v14)
        (fun acc => iprop(⌜acc = accAt (k.val + 1)⌝ ∗ wP c arg2 g2 ∗ bP c arg3 g3 ∗ aP c arg4 g4 ∗ ftsP c ff
          ∗ inFree c (Ring.sl 4 k.val) ∗ adjP c XA (Ring.bk 8 k.val) ∗ (∃ f, inF c XA (Ring.sl 4 (k.val + 3)) (Ring.bk 8 (k.val + 3)) f)
          ∗ obNew c XA arg3 arg4 k.val g3 g4 (ftsM.view.read (Elt F) ff)
          ∗ (∃ f : Buf (Elt F) ((outB (Ring.bk 8 (k.val - 1))).view.loc (c : Thread nD τ)), ⌜(outB (Ring.bk 8 (k.val - 1))).view.read (Elt F) f = (obS (Ring.sl 2 (k.val - 1))).view.read (Elt F) fb'⌝ ∗ outP c (Ring.bk 8 (k.val - 1)) f)
          ∗ obFree c (Ring.sl 2 (k.val - 1))
          ∗ ∃ W, owes (c : Thread nD τ) 0 W)) := by
  iintro ⟨Hw, Hb, Ha, Hfts, Hf0, Hs3, Hc3, Ha3, Ho, Hob, Hoc, Hof, HW⟩
  have h1 := chk1_all k
  have h2 := chk2_all k
  have h3 := chk3_all k
  have c3 := cond3_of_lt k hk3
  have c4 := cond4_all k
  have c8 := cond8_all k
  have c10 := cond10_of_pos k hk1
  have c7 := first_pos k hk1
  dsimp only [tripG]
  sl_unfold [k0_t1_body]
  sl_exec
  sl_step
  isplitr
  · ipureintro
    exact (by decide +kernel : ∀ k : Fin k0_t1_loop.trips, 1 ≤ k.val → k.val + 3 < 8 →
      (tripMid.sl.v122_r0 k, tripMid.sl.v192_r0 k, tripMid.sl.v174_r0 k, tripMid.sl.v188_r0 k, tripMid.sl.v96_r0 k) = accAt (k.val + 1)) k hk1 hk3
  isplitl [Hw]; · iexact Hw
  isplitl [Hb]; · iexact Hb
  isplitl [Ha]; · iexact Ha
  isplitl [Hfts]; · iexact Hfts
  isplitl [Hf0_dst Hf0]
  · isplitl [Hf0_dst]; · iexists _; iexact Hf0_dst
    iexact Hf0
  isplitl [Hf0_src]; · iexact Hf0_src
  isplitl [Hc3]; · iexists f3; iexact Hc3
  isplitl [Hoc]
  · iexists fo, (tripMid.sl.Hob_w1 c XA arg3 arg4 k g3 g4 ff fb h2 h3)
    isplitr
    · ipureintro
      exact read_obNew c XA arg3 arg4 k g3 g4 (View.readAt_full _ _ _) fb h2 h3 _ _ _ _ _ _
    · iexact Hoc
  isplitl [Hof_dst]
  · iexists _
    isplitr
    rotate_left
    · iexact Hof_dst
    · ipureintro
      exact View.read_writes_whole _ _ _
  isplitl [Hof_src Hof]
  · isplitl [Hof_src]; · iexists _; iexact Hof_src
    iexact Hof
  iexists _; iexact HW

/-- One of the last three trips, whose block `k + 3` does not exist. -/
theorem tripTail (k : Fin k0_t1_loop.trips) (v9 v14) (hk1 : 1 ≤ k.val) (hk3 : 8 ≤ k.val + 3) (g2 g3 g4) (f0 ff fo fb fo' fb' W) :
    iprop(wP c arg2 g2 ∗ bP c arg3 g3 ∗ aP c arg4 g4 ∗ ftsP c ff
      ∗ inF c XA (Ring.sl 4 k.val) (Ring.bk 8 k.val) f0
      ∗ outP c (Ring.bk 8 k.val) fo ∗ obP c (Ring.sl 2 k.val) fb ∗ obC c (Ring.sl 2 k.val) ∗ obF c (Ring.sl 2 (k.val - 1)) (Ring.bk 8 (k.val - 1)) fo' fb'
      ∗ owes (c : Thread nD τ) 0 W)
      ⊢ wp frame (wpE (defs₀ (F := F)) 𝒱₀ (c : Thread nD τ) none) Set.univ (tripG arg2 harg2 arg3 harg3 arg4 harg4 k v9 v14)
        (fun acc => iprop(⌜acc = accAt (k.val + 1)⌝ ∗ wP c arg2 g2 ∗ bP c arg3 g3 ∗ aP c arg4 g4 ∗ ftsP c ff
          ∗ inFree c (Ring.sl 4 k.val) ∗ adjP c XA (Ring.bk 8 k.val)
          ∗ obNew c XA arg3 arg4 k.val g3 g4 (ftsM.view.read (Elt F) ff)
          ∗ (∃ f : Buf (Elt F) ((outB (Ring.bk 8 (k.val - 1))).view.loc (c : Thread nD τ)), ⌜(outB (Ring.bk 8 (k.val - 1))).view.read (Elt F) f = (obS (Ring.sl 2 (k.val - 1))).view.read (Elt F) fb'⌝ ∗ outP c (Ring.bk 8 (k.val - 1)) f)
          ∗ obFree c (Ring.sl 2 (k.val - 1))
          ∗ ∃ W, owes (c : Thread nD τ) 0 W)) := by
  iintro ⟨Hw, Hb, Ha, Hfts, Hf0, Ho, Hob, Hoc, Hof, HW⟩
  have h1 := chk1_all k
  have h2 := chk2_all k
  have h3 := chk3_all k
  have c3 := cond3_of_le k hk3
  have c4 := cond4_all k
  have c8 := cond8_all k
  have c10 := cond10_of_pos k hk1
  have c7 := first_pos k hk1
  dsimp only [tripG]
  sl_unfold [k0_t1_body]
  sl_exec
  sl_step
  isplitr
  · ipureintro
    exact (by decide +kernel : ∀ k : Fin k0_t1_loop.trips, 1 ≤ k.val → 8 ≤ k.val + 3 →
      (tripTail.sl.v122_r0 k, tripTail.sl.v192_r0 k, tripTail.sl.v174_r0 k, tripTail.sl.v188_r0 k, tripTail.sl.v96_r0 k) = accAt (k.val + 1)) k hk1 hk3
  isplitl [Hw]; · iexact Hw
  isplitl [Hb]; · iexact Hb
  isplitl [Ha]; · iexact Ha
  isplitl [Hfts]; · iexact Hfts
  isplitl [Hf0_dst Hf0]
  · isplitl [Hf0_dst]; · iexists _; iexact Hf0_dst
    iexact Hf0
  isplitl [Hf0_src]; · iexact Hf0_src
  isplitl [Hoc]
  · iexists fo, (tripTail.sl.Hob_w1 c XA arg3 arg4 k g3 g4 ff fb h2 h3)
    isplitr
    · ipureintro
      exact read_obNew c XA arg3 arg4 k g3 g4 (View.readAt_full _ _ _) fb h2 h3 _ _ _ _ _ _
    · iexact Hoc
  isplitl [Hof_dst]
  · iexists _
    isplitr
    rotate_left
    · iexact Hof_dst
    · ipureintro
      exact View.read_writes_whole _ _ _
  isplitl [Hof_src Hof]
  · isplitl [Hof_src]; · iexists _; iexact Hof_src
    iexact Hof
  iexists _; iexact HW

/-- Trip 0: `seq` arrives, the features are computed, nothing of the result is out yet. -/
theorem tripFirst (k : Fin k0_t1_loop.trips) (v9 v14) (hk0 : k.val = 0) (hk3 : k.val + 3 < 8) (g2 g3 g4) (f0 f3 ff fs fo fb W) :
    iprop(wP c arg2 g2 ∗ bP c arg3 g3 ∗ aP c arg4 g4 ∗ ftsP c ff ∗ sqF c XS fs
      ∗ inF c XA (Ring.sl 4 k.val) (Ring.bk 8 k.val) f0 ∗ inP c (Ring.sl 4 (k.val + 3)) f3 ∗ inC c (Ring.sl 4 (k.val + 3)) ∗ adjP c XA (Ring.bk 8 (k.val + 3))
      ∗ outP c (Ring.bk 8 k.val) fo ∗ obP c (Ring.sl 2 k.val) fb ∗ obC c (Ring.sl 2 k.val)
      ∗ owes (c : Thread nD τ) 0 W)
      ⊢ wp frame (wpE (defs₀ (F := F)) 𝒱₀ (c : Thread nD τ) none) Set.univ (tripG arg2 harg2 arg3 harg3 arg4 harg4 k v9 v14)
        (fun acc => iprop(⌜acc = accAt (k.val + 1)⌝ ∗ wP c arg2 g2 ∗ bP c arg3 g3 ∗ aP c arg4 g4
          ∗ (∃ f, ⌜ftsM.view.read (Elt F) f = ftsV (seqV c XS) (wV c arg2 g2)⌝ ∗ ftsP c f) ∗ seqDone c XS
          ∗ inFree c (Ring.sl 4 k.val) ∗ adjP c XA (Ring.bk 8 k.val) ∗ (∃ f, inF c XA (Ring.sl 4 (k.val + 3)) (Ring.bk 8 (k.val + 3)) f)
          ∗ obNew c XA arg3 arg4 k.val g3 g4 (ftsV (seqV c XS) (wV c arg2 g2))
          ∗ ∃ W, owes (c : Thread nD τ) 0 W)) := by
  iintro ⟨Hw, Hb, Ha, Hfts, Hsq, Hf0, Hs3, Hc3, Ha3, Ho, Hob, Hoc, HW⟩
  have h1 := chk1_all k
  have h2 := chk2_all k
  have h3 := chk3_all k
  have c3 := cond3_of_lt k hk3
  have c4 := cond4_all k
  have c8 := cond8_all k
  have c10 := cond10_zero k hk0
  have c7 := first_zero k hk0
  dsimp only [tripG]
  sl_unfold [k0_t1_body]
  sl_exec
  have hY : k0_pay1 (F := F) (tripFirst.sl.v197_r0 c XS)
      (View.readAt (Elt F) arg2.view (Rect.unit (s := S512x64) ![0, 0] S512x64.size inb_S512x64_S512x64_0_0).toLoadRect g2) = ftsV (seqV c XS) (wV c arg2 g2) :=
    ftsV_congr (load_sq (seqV c XS) inb_S4096x512_S4096x512_0_0) (View.readAt_full _ _ _)
  sl_step
  isplitr
  · ipureintro
    exact (by decide +kernel : ∀ k : Fin k0_t1_loop.trips, k.val = 0 → k.val + 3 < 8 →
      (tripFirst.sl.v122_r0 k, tripFirst.sl.v192_r0 k, tripFirst.sl.v174_r0 k, tripFirst.sl.v188_r0 k, tripFirst.sl.v96_r0 k) = accAt (k.val + 1)) k hk0 hk3
  isplitl [Hw]; · iexact Hw
  isplitl [Hb]; · iexact Hb
  isplitl [Ha]; · iexact Ha
  isplitl [Hfts]
  · iexists (ftsM.view.writes (Elt F) ff (tripFirst.sl.Hfts_1 c XS arg2 g2))
    isplitr
    · ipureintro
      exact (View.read_writes_full _ _ _ _ _).trans hY
    · iexact Hfts
  isplitl [Hsq_dst Hsq_src Hsq]
  · isplitl [Hsq_src]; · iexact Hsq_src
    isplitl [Hsq_dst]; · iexists _; iexact Hsq_dst
    iexact Hsq
  isplitl [Hf0_dst Hf0]
  · isplitl [Hf0_dst]; · iexists _; iexact Hf0_dst
    iexact Hf0
  isplitl [Hf0_src]; · iexact Hf0_src
  isplitl [Hc3]; · iexists f3; iexact Hc3
  isplitl [Hoc]
  · iexists fo, (tripFirst.sl.Hob_w1 c XA XS arg2 arg3 arg4 k g2 g3 g4 fb h2 h3)
    isplitr
    · ipureintro
      exact read_obNew c XA arg3 arg4 k g3 g4 ((View.readCov_full _ _ _ _ _).trans hY) fb h2 h3 _ _ _ _ _ _
    · iexact Hoc
  iexists _; iexact HW

end Trip

end Cert.Proof.Gcn

end
-- ==== Proof.Loop.lean ====
/-
  The loop: every trip takes the state before it to the state before the next.
-/
module

public import proofs.«01_k».proof.Proof.Trip

@[expose] public section

noncomputable section

namespace Cert.Proof.Gcn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The state's conjuncts, opened -/

section Open
variable (c : Dev nD) (XA : Buf (Elt F) (adjM.view.loc (c : Thread nD τ))) (XS : Buf (Elt F) (seqM.view.loc (c : Thread nD τ)))
  (y : S4096x64.Idx → Elt F .f32) (R : Fin 8 → S512x64.Idx → Elt F .f32)

/-- `adj`'s blocks at rest before trip `k`, block `k + 3` apart; before trip `k + 1`, block `k` apart. -/
theorem homes_here (k : ℕ) (hk : k + 3 < 8) :
    bigSep (Ring.homeSet 3 k) (adjP c XA) = iprop(adjP c XA (Ring.bk 8 (k + 3)) ∗ bigSep ((Ring.homeSet 3 k).erase (Ring.bk 8 (k + 3))) (adjP c XA)) := by
  conv_lhs => rw [Ring.homeSet_out 3 k hk, bigSep_insert (Ring.bkL_not_mem_erase 3 k)]
  rfl
theorem homes_next (k : ℕ) (hk : k + 3 < 8) :
    bigSep (Ring.homeSet 3 (k + 1)) (adjP c XA) = iprop(adjP c XA (Ring.bk 8 k) ∗ bigSep ((Ring.homeSet 3 k).erase (Ring.bk 8 (k + 3))) (adjP c XA)) := by
  conv_lhs => rw [Ring.homeSet_succ 3 k hk, bigSep_insert (Ring.bk_not_mem_erase 3 k (by omega) (by decide))]
  rfl
theorem homes_tail (k : ℕ) (hk : 8 ≤ k + 3) (hk8 : k < 8) :
    bigSep (Ring.homeSet 3 (k + 1)) (adjP c XA) = iprop(adjP c XA (Ring.bk 8 k) ∗ bigSep (Ring.homeSet 3 k) (adjP c XA)) := by
  conv_lhs => rw [Ring.homeSet_succ_tail 3 k hk hk8, bigSep_insert (Ring.bk_not_mem_homeSet 3 k hk8 (by decide))]
  rfl

/-- The result's blocks: block `k` apart of those to write, block `k - 1` apart of those written before trip `k + 1`. -/
theorem todo_here (k : ℕ) (hk : k < 8) :
    bigSep (Ring.rangeSet 8 k 8) (outTodo (F := F) c) = iprop(outTodo c (Ring.bk 8 k) ∗ bigSep (Ring.rangeSet 8 (k + 1) 8) (outTodo c)) := by
  rw [Ring.bigSep_rangeSet_head hk hk, Ring.bk_eq_mk hk]
theorem done_next (k : ℕ) (h1 : 1 ≤ k) (hk : k ≤ 8) :
    bigSep (Ring.rangeSet 8 0 k) (outDone c R) = iprop(outDone c R (Ring.bk 8 (k - 1)) ∗ bigSep (Ring.rangeSet 8 0 (k - 1)) (outDone c R)) := by
  rw [Ring.bigSep_rangeSet_last (by omega) hk, Ring.bk_eq_mk (by omega)]

theorem inRole_lt (p : ℕ) (h : p < 8) : inRole c XA p = iprop(∃ f, inF c XA (Ring.sl 4 p) (Ring.bk 8 p) f) := if_pos h
theorem inRole_le (p : ℕ) (h : 8 ≤ p) : inRole c XA p = inFree c (Ring.sl 4 p) := if_neg (Nat.not_lt.mpr h)
theorem obRole_pos (k : ℕ) (h : 1 ≤ k) :
    obRole c R k = iprop(∃ f g, ⌜(obS (Ring.sl 2 (k - 1))).view.read (Elt F) g = R (Ring.bk 8 (k - 1))⌝ ∗ obF c (Ring.sl 2 (k - 1)) (Ring.bk 8 (k - 1)) f g) := if_pos h
theorem obRole_zero (k : ℕ) (h : k = 0) : obRole c R k = obFree c (Ring.sl 2 (k + 1)) := if_neg (by omega)
theorem seqRole_pos (k : ℕ) (h : 1 ≤ k) : seqRole c XS k = seqDone c XS := if_pos h
theorem seqRole_zero (k : ℕ) (h : k = 0) : seqRole c XS k = iprop(∃ f, sqF c XS f) := if_neg (by omega)

end Open

/-- One turn of each ring. -/
theorem sl4_turn (k : ℕ) : Ring.sl 4 (k + 1 + 3) = Ring.sl 4 k := Ring.sl_succ_add 4 k 3 rfl
theorem sl2_turn (k : ℕ) (h : 1 ≤ k) : Ring.sl 2 (k + 1) = Ring.sl 2 (k - 1) := by
  obtain ⟨j, rfl⟩ : ∃ j, k = j + 1 := ⟨k - 1, by omega⟩
  exact Ring.sl_add 2 j

section Loop
variable (c : Dev nD) (XA : Buf (Elt F) (adjM.view.loc (c : Thread nD τ))) (XS : Buf (Elt F) (seqM.view.loc (c : Thread nD τ)))
  (arg2 : Memref sig .tc .vmem S512x64 .f32) (harg2 : arg2.IsWhole)
  (arg3 : Memref sig .tc .vmem S1x64 .f32) (harg3 : arg3.IsWhole)
  (arg4 : Memref sig .tc .smem S1x1 .f32) (harg4 : arg4.IsWhole)
  (g2 : Buf (Elt F) (arg2.view.loc (c : Thread nD τ))) (g3 : Buf (Elt F) (arg3.view.loc (c : Thread nD τ))) (g4 : Buf (Elt F) (arg4.view.loc (c : Thread nD τ)))

/-- The features and the result's blocks, of what the inputs' buffers hold. -/
abbrev yG : S4096x64.Idx → Elt F .f32 := ftsV (seqV c XS) (wV c arg2 g2)
abbrev rG (b : Fin 8) : S512x64.Idx → Elt F .f32 := resV (adjV c XA b) (yG c XS arg2 g2) (bV c arg3 g3) (aV c arg4 g4)

/-- The invariant before trip `k`. -/
def invAt (k : ℕ) (acc : BitVec 32 × BitVec 32 × BitVec 32 × BitVec 32 × BitVec 32) : sProp 𝕄 :=
  iprop(⌜acc = accAt k⌝ ∗ wP c arg2 g2 ∗ bP c arg3 g3 ∗ aP c arg4 g4 ∗ stateAt c XA XS (yG c XS arg2 g2) (rG c XA XS arg2 arg3 arg4 g2 g3 g4) k)

/-- A trip that starts a transfer, one that does not, and the first: from the state before it to the state before the next. -/
theorem stepMid (k : Fin k0_t1_loop.trips) (v9 v14) (hk1 : 1 ≤ k.val) (hk3 : k.val + 3 < 8) :
    iprop(wP c arg2 g2 ∗ bP c arg3 g3 ∗ aP c arg4 g4 ∗ stateAt c XA XS (yG c XS arg2 g2) (rG c XA XS arg2 arg3 arg4 g2 g3 g4) k.val)
      ⊢ wp frame (wpE (defs₀ (F := F)) 𝒱₀ (c : Thread nD τ) none) Set.univ (tripG arg2 harg2 arg3 harg3 arg4 harg4 k v9 v14)
        (fun acc => invAt c XA XS arg2 arg3 arg4 g2 g3 g4 (k.val + 1) acc) := by
  unfold invAt stateAt
  rw [homes_here c XA _ hk3, homes_next c XA _ hk3, todo_here c k.val (by omega), Nat.add_sub_cancel,
    done_next c _ k.val hk1 (by omega), inRole_lt c XA k.val (by omega), inRole_lt c XA (k.val + 1 + 2) hk3,
    obRole_pos c _ k.val hk1, obRole_pos c _ (k.val + 1) (by omega), seqRole_pos c XS k.val hk1, seqRole_pos c XS (k.val + 1) (by omega),
    sl4_turn, sl2_turn _ hk1, Nat.add_sub_cancel]
  unfold ftsRole
  iintro ⟨Hw, Hb, Ha, Hseq, ⟨%ff, %hff, Hfts⟩, ⟨Ha3, Hhome⟩, ⟨%f0, Hf0⟩, Hr1, Hr2, ⟨⟨%f3, Hs3⟩, Hc3⟩, ⟨⟨%fb, Hob⟩, Hoc⟩, ⟨%fo', %fb', %hfb, Hof⟩, Hdone, ⟨⟨%fo, Ho⟩, Htodo⟩, ⟨%W, HW⟩⟩
  have hy := hff hk1
  iapply (wp_wand_r Idealize.ShloMosaic.frame (wpE (defs₀ (F := F)) 𝒱₀ (c : Thread nD τ) none) Set.univ)
  isplitl [Hw Hb Ha Hfts Hf0 Hs3 Hc3 Ha3 Ho Hob Hoc Hof HW]
  · iapply (tripMid c XA arg2 harg2 arg3 harg3 arg4 harg4 k v9 v14 hk1 hk3 g2 g3 g4 f0 f3 ff fo fb fo' fb' W)
    isplitl [Hw]; · iexact Hw
    isplitl [Hb]; · iexact Hb
    isplitl [Ha]; · iexact Ha
    isplitl [Hfts]; · iexact Hfts
    isplitl [Hf0]; · iexact Hf0
    isplitl [Hs3]; · iexact Hs3
    isplitl [Hc3]; · iexact Hc3
    isplitl [Ha3]; · iexact Ha3
    isplitl [Ho]; · iexact Ho
    isplitl [Hob]; · iexact Hob
    isplitl [Hoc]; · iexact Hoc
    isplitl [Hof]; · iexact Hof
    iexact HW
  · irw [hy, hfb]
    iintro %acc ⟨%hacc, Hw, Hb, Ha, Hfts, Hfree, Hak, Hnew, Hob, Hout, Hobf, HW⟩
    isplitr; · ipureintro; exact hacc
    isplitl [Hw]; · iexact Hw
    isplitl [Hb]; · iexact Hb
    isplitl [Ha]; · iexact Ha
    isplitl [Hseq]; · iexact Hseq
    isplitl [Hfts]
    · iexists ff
      isplitr; · ipureintro; exact fun _ => hy
      iexact Hfts
    isplitl [Hak Hhome]
    · isplitl [Hak]; · iexact Hak
      iexact Hhome
    isplitl [Hr1]; · iexact Hr1
    isplitl [Hr2]; · iexact Hr2
    isplitl [Hnew]; · iexact Hnew
    isplitl [Hfree]; · iexact Hfree
    isplitl [Hobf]; · iexact Hobf
    isplitl [Hob]; · iexact Hob
    isplitl [Hout Hdone]
    · isplitl [Hout]; · iexact Hout
      iexact Hdone
    isplitl [Htodo]; · iexact Htodo
    iexact HW

theorem stepTail (k : Fin k0_t1_loop.trips) (v9 v14) (hk1 : 1 ≤ k.val) (hk3 : 8 ≤ k.val + 3) :
    iprop(wP c arg2 g2 ∗ bP c arg3 g3 ∗ aP c arg4 g4 ∗ stateAt c XA XS (yG c XS arg2 g2) (rG c XA XS arg2 arg3 arg4 g2 g3 g4) k.val)
      ⊢ wp frame (wpE (defs₀ (F := F)) 𝒱₀ (c : Thread nD τ) none) Set.univ (tripG arg2 harg2 arg3 harg3 arg4 harg4 k v9 v14)
        (fun acc => invAt c XA XS arg2 arg3 arg4 g2 g3 g4 (k.val + 1) acc) := by
  have hk8 : k.val < 8 := trips_eq ▸ k.isLt
  unfold invAt stateAt
  rw [homes_tail c XA _ hk3 hk8, todo_here c k.val hk8, Nat.add_sub_cancel,
    done_next c _ k.val hk1 (by omega), inRole_lt c XA k.val hk8, inRole_le c XA (k.val + 1 + 2) hk3,
    obRole_pos c _ k.val hk1, obRole_pos c _ (k.val + 1) (by omega), seqRole_pos c XS k.val hk1, seqRole_pos c XS (k.val + 1) (by omega),
    sl4_turn, sl2_turn _ hk1, Nat.add_sub_cancel]
  unfold ftsRole
  iintro ⟨Hw, Hb, Ha, Hseq, ⟨%ff, %hff, Hfts⟩, Hhome, ⟨%f0, Hf0⟩, Hr1, Hr2, Hr3, ⟨⟨%fb, Hob⟩, Hoc⟩, ⟨%fo', %fb', %hfb, Hof⟩, Hdone, ⟨⟨%fo, Ho⟩, Htodo⟩, ⟨%W, HW⟩⟩
  have hy := hff hk1
  iapply (wp_wand_r Idealize.ShloMosaic.frame (wpE (defs₀ (F := F)) 𝒱₀ (c : Thread nD τ) none) Set.univ)
  isplitl [Hw Hb Ha Hfts Hf0 Ho Hob Hoc Hof HW]
  · iapply (tripTail c XA arg2 harg2 arg3 harg3 arg4 harg4 k v9 v14 hk1 hk3 g2 g3 g4 f0 ff fo fb fo' fb' W)
    isplitl [Hw]; · iexact Hw
    isplitl [Hb]; · iexact Hb
    isplitl [Ha]; · iexact Ha
    isplitl [Hfts]; · iexact Hfts
    isplitl [Hf0]; · iexact Hf0
    isplitl [Ho]; · iexact Ho
    isplitl [Hob]; · iexact Hob
    isplitl [Hoc]; · iexact Hoc
    isplitl [Hof]; · iexact Hof
    iexact HW
  · irw [hy, hfb]
    iintro %acc ⟨%hacc, Hw, Hb, Ha, Hfts, Hfree, Hak, Hnew, Hob, Hobf, HW⟩
    isplitr; · ipureintro; exact hacc
    isplitl [Hw]; · iexact Hw
    isplitl [Hb]; · iexact Hb
    isplitl [Ha]; · iexact Ha
    isplitl [Hseq]; · iexact Hseq
    isplitl [Hfts]
    · iexists ff
      isplitr; · ipureintro; exact fun _ => hy
      iexact Hfts
    isplitl [Hak Hhome]
    · isplitl [Hak]; · iexact Hak
      iexact Hhome
    isplitl [Hr1]; · iexact Hr1
    isplitl [Hr2]; · iexact Hr2
    isplitl [Hr3]; · iexact Hr3
    isplitl [Hfree]; · iexact Hfree
    isplitl [Hobf]; · iexact Hobf
    isplitl [Hnew]; · iexact Hnew
    isplitl [Hob Hdone]
    · isplitl [Hob]; · iexact Hob
      iexact Hdone
    isplitl [Htodo]; · iexact Htodo
    iexact HW

theorem stepFirst (k : Fin k0_t1_loop.trips) (v9 v14) (hk0 : k.val = 0) (hk3 : k.val + 3 < 8) :
    iprop(wP c arg2 g2 ∗ bP c arg3 g3 ∗ aP c arg4 g4 ∗ stateAt c XA XS (yG c XS arg2 g2) (rG c XA XS arg2 arg3 arg4 g2 g3 g4) k.val)
      ⊢ wp frame (wpE (defs₀ (F := F)) 𝒱₀ (c : Thread nD τ) none) Set.univ (tripG arg2 harg2 arg3 harg3 arg4 harg4 k v9 v14)
        (fun acc => invAt c XA XS arg2 arg3 arg4 g2 g3 g4 (k.val + 1) acc) := by
  unfold invAt stateAt
  rw [homes_here c XA _ hk3, homes_next c XA _ hk3, todo_here c k.val (by omega), Nat.add_sub_cancel,
    show k.val - 1 = k.val by omega, inRole_lt c XA k.val (by omega), inRole_lt c XA (k.val + 1 + 2) hk3,
    obRole_zero c _ k.val hk0, obRole_pos c _ (k.val + 1) (by omega), seqRole_zero c XS k.val hk0, seqRole_pos c XS (k.val + 1) (by omega),
    sl4_turn, Nat.add_sub_cancel]
  unfold ftsRole
  iintro ⟨Hw, Hb, Ha, ⟨%fs, Hsq⟩, ⟨%ff, -, Hfts⟩, ⟨Ha3, Hhome⟩, ⟨%f0, Hf0⟩, Hr1, Hr2, ⟨⟨%f3, Hs3⟩, Hc3⟩, ⟨⟨%fb, Hob⟩, Hoc⟩, Hobf, Hdone, ⟨⟨%fo, Ho⟩, Htodo⟩, ⟨%W, HW⟩⟩
  iapply (wp_wand_r Idealize.ShloMosaic.frame (wpE (defs₀ (F := F)) 𝒱₀ (c : Thread nD τ) none) Set.univ)
  isplitl [Hw Hb Ha Hfts Hsq Hf0 Hs3 Hc3 Ha3 Ho Hob Hoc HW]
  · iapply (tripFirst c XA XS arg2 harg2 arg3 harg3 arg4 harg4 k v9 v14 hk0 hk3 g2 g3 g4 f0 f3 ff fs fo fb W)
    isplitl [Hw]; · iexact Hw
    isplitl [Hb]; · iexact Hb
    isplitl [Ha]; · iexact Ha
    isplitl [Hfts]; · iexact Hfts
    isplitl [Hsq]; · iexact Hsq
    isplitl [Hf0]; · iexact Hf0
    isplitl [Hs3]; · iexact Hs3
    isplitl [Hc3]; · iexact Hc3
    isplitl [Ha3]; · iexact Ha3
    isplitl [Ho]; · iexact Ho
    isplitl [Hob]; · iexact Hob
    isplitl [Hoc]; · iexact Hoc
    iexact HW
  · iintro %acc ⟨%hacc, Hw, Hb, Ha, ⟨%ff', %hff', Hfts⟩, Hseq, Hfree, Hak, Hnew, Hob, HW⟩
    isplitr; · ipureintro; exact hacc
    isplitl [Hw]; · iexact Hw
    isplitl [Hb]; · iexact Hb
    isplitl [Ha]; · iexact Ha
    isplitl [Hseq]; · iexact Hseq
    isplitl [Hfts]
    · iexists ff'
      isplitr; · ipureintro; exact fun _ => hff'
      iexact Hfts
    isplitl [Hak Hhome]
    · isplitl [Hak]; · iexact Hak
      iexact Hhome
    isplitl [Hr1]; · iexact Hr1
    isplitl [Hr2]; · iexact Hr2
    isplitl [Hnew]; · iexact Hnew
    isplitl [Hfree]; · iexact Hfree
    isplitl [Hobf]; · iexact Hobf
    isplitl [Hob]; · iexact Hob
    isplitl [Hdone]; · iexact Hdone
    isplitl [Htodo]; · iexact Htodo
    iexact HW

/-- Every trip. -/
theorem stepAll (k : Fin k0_t1_loop.trips) (acc) (v9 v14 : BitVec 32) :
    invAt c XA XS arg2 arg3 arg4 g2 g3 g4 k.val acc
      ⊢ wp frame (wpE (defs₀ (F := F)) 𝒱₀ (c : Thread nD τ) none) Set.univ
        (k0_t1_body (F := F) seqM (Memref.isWhole_whole _) adjM (Memref.isWhole_whole _) arg2 harg2 arg3 harg3 arg4 harg4 outM (Memref.isWhole_whole _)
          ftsM (Memref.isWhole_whole _) sqM (Memref.isWhole_whole _) cc0_scratch2 inM (Memref.isWhole_whole _) cc0_scoped1 obM (Memref.isWhole_whole _) cc0_scoped3 v9 v14 k acc)
        (fun acc => invAt c XA XS arg2 arg3 arg4 g2 g3 g4 (k.val + 1) acc) := by
  conv_lhs => unfold invAt
  iintro ⟨%hacc, H⟩
  subst hacc
  have hk8 : k.val < 8 := trips_eq ▸ k.isLt
  by_cases hk0 : k.val = 0
  · iapply (stepFirst c XA XS arg2 harg2 arg3 harg3 arg4 harg4 g2 g3 g4 k v9 v14 hk0 (by omega)); iexact H
  · by_cases hk3 : k.val + 3 < 8
    · iapply (stepMid c XA XS arg2 harg2 arg3 harg3 arg4 harg4 g2 g3 g4 k v9 v14 (by omega) hk3); iexact H
    · iapply (stepTail c XA XS arg2 harg2 arg3 harg3 arg4 harg4 g2 g3 g4 k v9 v14 (by omega) (by omega)); iexact H

end Loop

end Cert.Proof.Gcn

end
-- ==== Proof.Body.lean ====
/-
  The kernel's body: the copy of `seq` and the first three transfers of `adj` are started, the loop runs, the last result
  block is waited for.
-/
module

public import proofs.«01_k».proof.Proof.Loop

@[expose] public section

noncomputable section

namespace Cert.Proof.Gcn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section Body
variable (c : Dev nD) (XA : Buf (Elt F) (adjM.view.loc (c : Thread nD τ))) (XS : Buf (Elt F) (seqM.view.loc (c : Thread nD τ)))
  (arg2 : Memref sig .tc .vmem S512x64 .f32) (harg2 : arg2.IsWhole)
  (arg3 : Memref sig .tc .vmem S1x64 .f32) (harg3 : arg3.IsWhole)
  (arg4 : Memref sig .tc .smem S1x1 .f32) (harg4 : arg4.IsWhole)
  (g2 : Buf (Elt F) (arg2.view.loc (c : Thread nD τ))) (g3 : Buf (Elt F) (arg3.view.loc (c : Thread nD τ))) (g4 : Buf (Elt F) (arg4.view.loc (c : Thread nD τ)))

/-- The names of the first transfers are the invariant's before trip 0. -/
theorem sl4_0 : Ring.sl 4 0 = 0 := rfl
theorem sl4_1 : Ring.sl 4 (0 + 1) = 1 := rfl
theorem sl4_2 : Ring.sl 4 (0 + 2) = 2 := rfl
theorem sl4_3 : Ring.sl 4 (0 + 3) = 3 := rfl
theorem sl2_0 : Ring.sl 2 0 = 0 := rfl
theorem sl2_1 : Ring.sl 2 (0 + 1) = 1 := rfl
theorem bk8_0 : Ring.bk 8 0 = 0 := rfl
theorem bk8_1 : Ring.bk 8 (0 + 1) = 1 := rfl
theorem bk8_2 : Ring.bk 8 (0 + 2) = 2 := rfl

/-- What the body needs, `adj` in blocks and the rings in slots, at any contents where it does not read them first; -/
abbrev PRE : sProp 𝕄 :=
  iprop(wP c arg2 g2 ∗ bP c arg3 g3 ∗ aP c arg4 g4 ∗ seqP c XS ∗ (∃ f, sqP c f) ∗ sqC c ∗ (∃ f, ftsP c f)
    ∗ adjP c XA 0 ∗ adjP c XA 1 ∗ adjP c XA 2 ∗ bigSep (Ring.homeSet 3 0) (adjP c XA)
    ∗ inFree c 0 ∗ inFree c 1 ∗ inFree c 2 ∗ inFree c 3 ∗ obFree c 0 ∗ obFree c 1
    ∗ bigSep (Ring.rangeSet 8 0 8) (outTodo c)
    ∗ ∃ W, owes (c : Thread nD τ) 0 W)
/-- what it gives back: the same, every result block written. -/
abbrev POST : sProp 𝕄 :=
  iprop(wP c arg2 g2 ∗ bP c arg3 g3 ∗ aP c arg4 g4 ∗ seqP c XS ∗ (∃ f, sqP c f) ∗ sqC c ∗ (∃ f, ftsP c f)
    ∗ bigSep Finset.univ (adjP c XA)
    ∗ inFree c 0 ∗ inFree c 1 ∗ inFree c 2 ∗ inFree c 3 ∗ obFree c 0 ∗ obFree c 1
    ∗ bigSep (Ring.rangeSet 8 0 8) (outDone c (rG c XA XS arg2 arg3 arg4 g2 g3 g4))
    ∗ ∃ W, owes (c : Thread nD τ) 0 W)

/-- The state before trip 0, as the body reaches it. -/
theorem inv_start :
    iprop(wP c arg2 g2 ∗ bP c arg3 g3 ∗ aP c arg4 g4 ∗ (∃ f, sqF c XS f) ∗ (∃ f, ftsP c f) ∗ bigSep (Ring.homeSet 3 0) (adjP c XA)
      ∗ (∃ f, inF c XA 0 0 f) ∗ (∃ f, inF c XA 1 1 f) ∗ (∃ f, inF c XA 2 2 f) ∗ inFree c 3 ∗ obFree c 0 ∗ obFree c 1
      ∗ bigSep (Ring.rangeSet 8 0 8) (outTodo c) ∗ ∃ W, owes (c : Thread nD τ) 0 W)
      ⊢ invAt c XA XS arg2 arg3 arg4 g2 g3 g4 0 (3#32, 0#32, 0#32, 0#32, 0#32) := by
  unfold invAt stateAt
  rw [inRole_lt c XA 0 (by omega), inRole_lt c XA (0 + 1) (by omega), inRole_lt c XA (0 + 2) (by omega),
    obRole_zero c _ 0 rfl, seqRole_zero c XS 0 rfl, Ring.bigSep_rangeSet_empty (lo := 0) (hi := 0 - 1) (by omega),
    sl4_0, sl4_1, sl4_2, sl4_3, sl2_0, sl2_1, bk8_0, bk8_1, bk8_2]
  unfold ftsRole
  iintro ⟨Hw, Hb, Ha, HcS, ⟨%ff, Hfts⟩, Hhome, Hc0, Hc1, Hc2, H3, H4, H5, Htodo, HW⟩
  isplitr; · ipureintro; decide +kernel
  isplitl [Hw]; · iexact Hw
  isplitl [Hb]; · iexact Hb
  isplitl [Ha]; · iexact Ha
  isplitl [HcS]; · iexact HcS
  isplitl [Hfts]
  · iexists ff
    isplitr; · ipureintro; exact fun h => absurd h (by omega)
    iexact Hfts
  isplitl [Hhome]; · iexact Hhome
  isplitl [Hc0]; · iexact Hc0
  isplitl [Hc1]; · iexact Hc1
  isplitl [Hc2]; · iexact Hc2
  isplitl [H3]; · iexact H3
  isplitl [H4]; · iexact H4
  isplitl [H5]; · iexact H5
  isplitr; · iempintro
  isplitl [Htodo]; · iexact Htodo
  iexact HW

/-- The state after the last trip: result block 7 is on its way out, all else at rest. -/
theorem inv_end (acc) :
    invAt c XA XS arg2 arg3 arg4 g2 g3 g4 k0_t1_loop.trips acc
      ⊢ iprop(⌜acc = accAt 8⌝ ∗ wP c arg2 g2 ∗ bP c arg3 g3 ∗ aP c arg4 g4 ∗ seqDone c XS ∗ (∃ f, ftsP c f) ∗ bigSep Finset.univ (adjP c XA)
        ∗ inFree c 0 ∗ inFree c 1 ∗ inFree c 2 ∗ inFree c 3 ∗ obFree c 0
        ∗ (∃ f g, ⌜(obS 1).view.read (Elt F) g = rG c XA XS arg2 arg3 arg4 g2 g3 g4 7⌝ ∗ obF c 1 7 f g)
        ∗ bigSep (Ring.rangeSet 8 0 (8 - 1)) (outDone c (rG c XA XS arg2 arg3 arg4 g2 g3 g4)) ∗ ∃ W, owes (c : Thread nD τ) 0 W) := by
  unfold invAt stateAt
  rw [trips_eq, inRole_le c XA 8 (by omega), inRole_le c XA (8 + 1) (by omega), inRole_le c XA (8 + 2) (by omega),
    obRole_pos c _ 8 (by omega), seqRole_pos c XS 8 (by omega), Ring.homeSet_last 3 8 (by omega),
    show Ring.sl 4 8 = 0 from rfl, show Ring.sl 4 (8 + 1) = 1 from rfl, show Ring.sl 4 (8 + 2) = 2 from rfl, show Ring.sl 4 (8 + 3) = 3 from rfl,
    show Ring.sl 2 8 = 0 from rfl, show Ring.sl 2 (8 - 1) = 1 from rfl, show Ring.bk 8 (8 - 1) = 7 from rfl]
  unfold ftsRole
  iintro ⟨%hacc, Hw, Hb, Ha, Hseq, ⟨%ff, -, Hfts⟩, Hhome, H0, H1, H2, H3, Hob0, Hof, Hdone, -, HW⟩
  isplitr; · ipureintro; exact hacc
  isplitl [Hw]; · iexact Hw
  isplitl [Hb]; · iexact Hb
  isplitl [Ha]; · iexact Ha
  isplitl [Hseq]; · iexact Hseq
  isplitl [Hfts]; · iexists ff; iexact Hfts
  isplitl [Hhome]; · iexact Hhome
  isplitl [H0]; · iexact H0
  isplitl [H1]; · iexact H1
  isplitl [H2]; · iexact H2
  isplitl [H3]; · iexact H3
  isplitl [Hob0]; · iexact Hob0
  isplitl [Hof]; · iexact Hof
  isplitl [Hdone]; · iexact Hdone
  iexact HW

attribute [local sl_canon] sl4_0 sl4_1 sl4_2 sl4_3 sl2_0 sl2_1 bk8_0 bk8_1 bk8_2 in
/-- The body. -/
theorem bodyRun (Q : PUnit → sProp 𝕄) :
    iprop(PRE c XA XS arg2 arg3 arg4 g2 g3 g4 ∗ (POST c XA XS arg2 arg3 arg4 g2 g3 g4 -∗ Q ⟨⟩))
      ⊢ wp frame (wpE (defs₀ (F := F)) 𝒱₀ (c : Thread nD τ) none) Set.univ (bodyG arg2 harg2 arg3 harg3 arg4 harg4) Q := by
  iintro ⟨⟨Hw, Hb, Ha, Hseq, ⟨%fs, Hsq⟩, HcS, ⟨%ff, Hfts⟩, Ha0, Ha1, Ha2, Hhome, ⟨⟨%f0, Hs0⟩, Hc0⟩, ⟨⟨%f1, Hs1⟩, Hc1⟩, ⟨⟨%f2, Hs2⟩, Hc2⟩, ⟨⟨%f3, Hs3⟩, Hc3⟩,
    ⟨⟨%b0, Hb0⟩, Hd0⟩, ⟨⟨%b1, Hb1⟩, Hd1⟩, Htodo, ⟨%W, HW⟩⟩, Hk⟩
  sl_exec
  ihave Hst := (inv_start c XA XS arg2 arg3 arg4 g2 g3 g4) $$ [Hw Hb Ha Hfts Hhome Hs3 Hc3 Hb0 Hd0 Hb1 Hd1 Htodo HW HcS Hc0 Hc1 Hc2]
  · isplitl [Hw]; · iexact Hw
    isplitl [Hb]; · iexact Hb
    isplitl [Ha]; · iexact Ha
    isplitl [HcS]; · iexists fs; iexact HcS
    isplitl [Hfts]; · iexists ff; iexact Hfts
    isplitl [Hhome]; · iexact Hhome
    isplitl [Hc0]; · iexists f0; iexact Hc0
    isplitl [Hc1]; · iexists f1; iexact Hc1
    isplitl [Hc2]; · iexists f2; iexact Hc2
    isplitl [Hs3 Hc3]
    · isplitl [Hs3]; · iexists f3; iexact Hs3
      iexact Hc3
    isplitl [Hb0 Hd0]
    · isplitl [Hb0]; · iexists b0; iexact Hb0
      iexact Hd0
    isplitl [Hb1 Hd1]
    · isplitl [Hb1]; · iexists b1; iexact Hb1
      iexact Hd1
    isplitl [Htodo]; · iexact Htodo
    iexists W; iexact HW
  sl_for (invAt c XA XS arg2 arg3 arg4 g2 g3 g4) $$ [Hst]
  case region => exact fun k acc => stepAll c XA XS arg2 harg2 arg3 harg3 arg4 harg4 g2 g3 g4 k acc 1#32 2#32
  · iexact Hst
  iintro %acc Hinv
  ihave Hend := (inv_end c XA XS arg2 arg3 arg4 g2 g3 g4 acc) $$ [Hinv]
  · iexact Hinv
  icases Hend with ⟨%hacc, Hw, Hb, Ha, ⟨Hseq, Hsq, HcS⟩, Hfts, Hhome, H0, H1, H2, H3, Hob0, ⟨%fo, %fb, %hfb, Hof⟩, Hdone, ⟨%W', HW⟩⟩
  subst hacc
  have h4 := chk4_end
  have h5 := chk5_end
  sl_exec
  sl_step
  iapply Hk
  isplitl [Hw]; · iexact Hw
  isplitl [Hb]; · iexact Hb
  isplitl [Ha]; · iexact Ha
  isplitl [Hseq]; · iexact Hseq
  isplitl [Hsq]; · iexact Hsq
  isplitl [HcS]; · iexact HcS
  isplitl [Hfts]; · iexact Hfts
  isplitl [Hhome]; · iexact Hhome
  isplitl [H0]; · iexact H0
  isplitl [H1]; · iexact H1
  isplitl [H2]; · iexact H2
  isplitl [H3]; · iexact H3
  isplitl [Hob0]; · iexact Hob0
  isplitl [Hof_src Hof]
  · isplitl [Hof_src]; · iexists _; iexact Hof_src
    iexact Hof
  isplitl [Hof_dst Hdone]
  · irw [done_next c (rG c XA XS arg2 arg3 arg4 g2 g3 g4) 8 (by omega) (by omega)]
    isplitl [Hof_dst]
    · iexists _
      isplitr
      rotate_left
      · iexact Hof_dst
      · ipureintro
        exact (View.read_writes_whole _ _ _).trans hfb
    · iexact Hdone
  iexists _; iexact HW

end Body

end Cert.Proof.Gcn

end
-- ==== Proof.Sets.lean ====
/-
  Whole buffers and their parts: `adj` is its eight blocks, the result is its eight blocks, each ring is its slots. At the
  end the eight result blocks, each holding its part, are one array.
-/
module

public import proofs.«01_k».proof.Proof.Body
public import Idealize.ShloMosaic.Lib.Pointwise
public import Idealize.ShloMosaic.Lib.Pipeline.ValueKit.Geometry

@[expose] public section

noncomputable section

namespace Cert.Proof.Gcn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Element sets -/

/-- The elements of block `b` of `adj`, of block `b` of the result, of a slot of either ring. -/
abbrev adjK (b : Fin 8) : Finset S4096x4096.Idx := (Rect.unit (s := S4096x4096) (adjOff b) S512x4096.size (adjOff_inb b)).set
abbrev outK (b : Fin 8) : Finset S4096x64.Idx := (Rect.unit (s := S4096x64) (outOff b) S512x64.size (outOff_inb b)).set
abbrev inK (s : Fin 4) : Finset S4x512x4096.Idx := (Rect.unit (s := S4x512x4096) (inOff s) S1x512x4096.size (inOff_inb s)).set
abbrev obK (s : Fin 2) : Finset S2x512x64.Idx := (Rect.unit (s := S2x512x64) (obOff s) S1x512x64.size (obOff_inb s)).set

theorem adjB_set (b : Fin 8) : (adjB b).view.set = adjK b := View.set_slice_whole _ _
theorem outB_set (b : Fin 8) : (outB b).view.set = outK b := View.set_slice_whole _ _
theorem inS_set (s : Fin 4) : (inS s).view.set = inK s := (View.set_reshape _ _).trans (View.set_slice_whole _ _)
theorem obS_set (s : Fin 2) : (obS s).view.set = obK s := (View.set_reshape _ _).trans (View.set_slice_whole _ _)

/-- Blocks (and slots) are disjoint and make up the whole. -/
theorem adjK_disjoint : ∀ b b' : Fin 8, b ≠ b' → Disjoint (adjK b) (adjK b') :=
  Ring.lead_disjoint (s := S4096x4096) (NB := 8) (0 : Fin 2) 512 adjOff S512x4096.size adjOff_inb (fun _ => rfl) rfl
theorem adjK_cover : (Finset.univ : Finset (Fin 8)).biUnion adjK = Finset.univ :=
  Ring.lead_cover (s := S4096x4096) (NB := 8) (0 : Fin 2) 512 adjOff S512x4096.size adjOff_inb (fun _ => rfl) (fun b a ha => by fin_cases a <;> first | exact absurd rfl ha | rfl) rfl (fun a ha => by fin_cases a <;> first | exact absurd rfl ha | rfl) (by decide)
theorem outK_disjoint : ∀ b b' : Fin 8, b ≠ b' → Disjoint (outK b) (outK b') :=
  Ring.lead_disjoint (s := S4096x64) (NB := 8) (0 : Fin 2) 512 outOff S512x64.size outOff_inb (fun _ => rfl) rfl
theorem outK_cover : (Finset.univ : Finset (Fin 8)).biUnion outK = Finset.univ :=
  Ring.lead_cover (s := S4096x64) (NB := 8) (0 : Fin 2) 512 outOff S512x64.size outOff_inb (fun _ => rfl) (fun b a ha => by fin_cases a <;> first | exact absurd rfl ha | rfl) rfl (fun a ha => by fin_cases a <;> first | exact absurd rfl ha | rfl) (by decide)
theorem inK_disjoint : ∀ s s' : Fin 4, s ≠ s' → Disjoint (inK s) (inK s') :=
  Ring.lead_disjoint (s := S4x512x4096) (NB := 4) (0 : Fin 3) 1 inOff S1x512x4096.size inOff_inb (fun s => (Nat.one_mul _).symm) rfl
theorem inK_cover : (Finset.univ : Finset (Fin 4)).biUnion inK = Finset.univ :=
  Ring.lead_cover (s := S4x512x4096) (NB := 4) (0 : Fin 3) 1 inOff S1x512x4096.size inOff_inb (fun s => (Nat.one_mul _).symm) (fun b a ha => by fin_cases a <;> first | exact absurd rfl ha | rfl) rfl (fun a ha => by fin_cases a <;> first | exact absurd rfl ha | rfl) (by decide)
theorem obK_disjoint : ∀ s s' : Fin 2, s ≠ s' → Disjoint (obK s) (obK s') :=
  Ring.lead_disjoint (s := S2x512x64) (NB := 2) (0 : Fin 3) 1 obOff S1x512x64.size obOff_inb (fun s => (Nat.one_mul _).symm) rfl
theorem obK_cover : (Finset.univ : Finset (Fin 2)).biUnion obK = Finset.univ :=
  Ring.lead_cover (s := S2x512x64) (NB := 2) (0 : Fin 3) 1 obOff S1x512x64.size obOff_inb (fun s => (Nat.one_mul _).symm) (fun b a ha => by fin_cases a <;> first | exact absurd rfl ha | rfl) rfl (fun a ha => by fin_cases a <;> first | exact absurd rfl ha | rfl) (by decide)

/-- What is the same is had from it. -/
theorem of_same {P Q : sProp 𝕄} (e : P = Q) : P ⊢ Q := e ▸ .rfl

theorem bigSep_two (Φ : Fin 2 → sProp 𝕄) : bigSep Finset.univ Φ = iprop(Φ 0 ∗ Φ 1) :=
  bigSep_univ_eq_bigSepL [(0 : Fin 2), (1 : Fin 2)] (by decide) (by decide) Φ
theorem bigSep_four (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

/-! ## `adj` -/

section Split
variable (c : Dev nD)

/-- `adj` whole is its eight blocks; -/
theorem adj_eq (XA : Buf (Elt F) (adjM.view.loc (c : Thread nD τ))) :
    (((c : Thread nD τ).loc main_arg1) ↦{fullShare} XA : sProp 𝕄) = bigSep Finset.univ (adjP c XA) := by
  rw [Ring.pointsTo_blocks (ℓ := (c : Thread nD τ).loc main_arg1) adjK adjK_disjoint adjK_cover]
  exact bigSep_congr fun b _ => by rw [← adjB_set]; rfl
/-- at the start, blocks 0, 1, 2 apart from the rest. -/
theorem adj_first (XA : Buf (Elt F) (adjM.view.loc (c : Thread nD τ))) :
    bigSep Finset.univ (adjP c XA) = iprop(adjP c XA 0 ∗ adjP c XA 1 ∗ adjP c XA 2 ∗ bigSep (Ring.homeSet 3 0) (adjP c XA)) := by
  have e : (Finset.univ : Finset (Fin 8)) = insert 0 (insert 1 (insert 2 (Ring.homeSet (NB := 8) 3 0))) := by
    ext b; simp only [Finset.mem_univ, Finset.mem_insert, Ring.mem_homeSet, true_iff, Fin.ext_iff]; have := b.isLt
    show b.val = 0 ∨ b.val = 1 ∨ b.val = 2 ∨ _; omega
  rw [e, bigSep_insert (by simp [Ring.mem_homeSet, Fin.ext_iff]), bigSep_insert (by simp [Ring.mem_homeSet, Fin.ext_iff]),
    bigSep_insert (by simp [Ring.mem_homeSet])]; rfl

/-! ## The rings -/

theorem inP_eq (s : Fin 4) (f) : inP c s f = (((c : Thread nD τ).loc cc0_scoped0) ↦[inK s]{fullShare} f : sProp 𝕄) :=
  congrArg (fun S => (_ ↦[S]{fullShare} f : sProp 𝕄)) (inS_set s)
theorem obP_eq (s : Fin 2) (f) : obP c s f = (((c : Thread nD τ).loc cc0_scoped2) ↦[obK s]{fullShare} f : sProp 𝕄) :=
  congrArg (fun S => (_ ↦[S]{fullShare} f : sProp 𝕄)) (obS_set s)

/-- The ring of `adj` blocks is its four slots, and back; -/
theorem in_split :
    iprop(∃ f : Buf (Elt F) ((c : Thread nD τ).loc cc0_scoped0), ((c : Thread nD τ).loc cc0_scoped0) ↦{fullShare} f)
      ⊢ (iprop((∃ f, inP c 0 f) ∗ (∃ f, inP c 1 f) ∗ (∃ f, inP c 2 f) ∗ ∃ f, inP c 3 f) : sProp 𝕄) := by
  iintro ⟨%f, H⟩
  ihave H2 := (of_same ((Ring.pointsTo_blocks (Ix := Unit) (Name := ℕ) (U := UU) (Lvl := ℕ) (q := fullShare) (ℓ := (c : Thread nD τ).loc cc0_scoped0) inK inK_disjoint inK_cover f).trans (bigSep_four _))) $$ H
  icases H2 with ⟨H0, H1, H2, H3⟩
  isplitl [H0]; · iexists f; iapply (of_same (inP_eq c 0 f).symm); iexact H0
  isplitl [H1]; · iexists f; iapply (of_same (inP_eq c 1 f).symm); iexact H1
  isplitl [H2]; · iexists f; iapply (of_same (inP_eq c 2 f).symm); iexact H2
  iexists f; iapply (of_same (inP_eq c 3 f).symm); iexact H3
theorem in_join :
    iprop((∃ f, inP c 0 f) ∗ (∃ f, inP c 1 f) ∗ (∃ f, inP c 2 f) ∗ ∃ f, inP c 3 f)
      ⊢ (iprop(∃ f : Buf (Elt F) ((c : Thread nD τ).loc cc0_scoped0), ((c : Thread nD τ).loc cc0_scoped0) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scoped0) inK inK_disjoint inK_cover f0)
  irw [bigSep_four]
  isplitl [H0]; · iexists f0; iapply (of_same (inP_eq c 0 f0)); iexact H0
  isplitl [H1]; · iexists f1; iapply (of_same (inP_eq c 1 f1)); iexact H1
  isplitl [H2]; · iexists f2; iapply (of_same (inP_eq c 2 f2)); iexact H2
  iexists f3; iapply (of_same (inP_eq c 3 f3)); iexact H3
/-- the ring of result blocks is its two. -/
theorem ob_split :
    iprop(∃ f : Buf (Elt F) ((c : Thread nD τ).loc cc0_scoped2), ((c : Thread nD τ).loc cc0_scoped2) ↦{fullShare} f)
      ⊢ (iprop((∃ f, obP c 0 f) ∗ ∃ f, obP c 1 f) : sProp 𝕄) := by
  iintro ⟨%f, H⟩
  ihave H2 := (of_same ((Ring.pointsTo_blocks (Ix := Unit) (Name := ℕ) (U := UU) (Lvl := ℕ) (q := fullShare) (ℓ := (c : Thread nD τ).loc cc0_scoped2) obK obK_disjoint obK_cover f).trans (bigSep_two _))) $$ H
  icases H2 with ⟨H0, H1⟩
  isplitl [H0]; · iexists f; iapply (of_same (obP_eq c 0 f).symm); iexact H0
  iexists f; iapply (of_same (obP_eq c 1 f).symm); iexact H1
theorem ob_join :
    iprop((∃ f, obP c 0 f) ∗ ∃ f, obP c 1 f)
      ⊢ (iprop(∃ f : Buf (Elt F) ((c : Thread nD τ).loc cc0_scoped2), ((c : Thread nD τ).loc cc0_scoped2) ↦{fullShare} f) : sProp 𝕄) := by
  iintro ⟨⟨%f0, H0⟩, ⟨%f1, H1⟩⟩
  iapply (Ring.pointsTo_blocks_join_exists (ℓ := (c : Thread nD τ).loc cc0_scoped2) obK obK_disjoint obK_cover f0)
  irw [bigSep_two]
  isplitl [H0]; · iexists f0; iapply (of_same (obP_eq c 0 f0)); iexact H0
  iexists f1; iapply (of_same (obP_eq c 1 f1)); iexact H1

/-! ## The result -/

/-- The result array made of the blocks `R`: row `i` is row `i mod 512` of block `i / 512`. -/
def resArr (R : Fin 8 → S512x64.Idx → Elt F .f32) : Buf (Elt F) ((c : Thread nD τ).loc main_v3) := fun (i : S4096x64.Idx) =>
  R ⟨(i 0).val / 512, by have := (i 0).isLt; change (i 0).val < 4096 at this; omega⟩ (ix2 ⟨(i 0).val % 512, Nat.mod_lt _ (by omega)⟩ (i 1))

/-- Element `y` of block `b` in the whole. -/
def outIx (b : Fin 8) (y : S512x64.Idx) : S4096x64.Idx := (outB b).view.emb y
theorem outIx_row (b : Fin 8) (y : S512x64.Idx) : (outIx b y 0).val = 512 * b.val + (y 0).val :=
  (ValueKit.rect_emb_unit_val (s := S4096x64) (outOff b) S512x64.size (outOff_inb b) y 0)
theorem outIx_col (b : Fin 8) (y : S512x64.Idx) : (outIx b y 1).val = (y 1).val :=
  (ValueKit.rect_emb_unit_val (s := S4096x64) (outOff b) S512x64.size (outOff_inb b) y 1).trans (Nat.zero_add _)

/-- The array at element `y` of block `b` is `R b` at `y`. -/
theorem resArr_outIx (R : Fin 8 → S512x64.Idx → Elt F .f32) (b : Fin 8) (y : S512x64.Idx) : resArr c R (outIx b y) = R b y := by
  have hy : (y 0).val < 512 := (y 0).isLt
  have h0 := outIx_row b y
  have h1 := outIx_col b y
  unfold resArr
  have eb : (⟨(outIx b y 0).val / 512, by rw [h0]; have := b.isLt; omega⟩ : Fin 8) = b := Fin.ext (by show _ / 512 = b.val; rw [h0]; omega)
  have ey : (ix2 ⟨(outIx b y 0).val % 512, Nat.mod_lt _ (by omega)⟩ (outIx b y 1) : S512x64.Idx) = y := by
    funext a
    fin_cases a
    · exact Fin.ext (by show _ % 512 = (y 0).val; rw [h0]; omega)
    · exact Fin.ext h1
  exact congrArg₂ R eb ey

/-- Contents that read `R b` on block `b` are that array there. -/
theorem resArr_of_read (R : Fin 8 → S512x64.Idx → Elt F .f32) (b : Fin 8) (f : Buf (Elt F) ((outB b).view.loc (c : Thread nD τ)))
    (hf : (outB b).view.read (Elt F) f = R b) (i : S4096x64.Idx) (hi : i ∈ outK b) : f i = resArr c R i := by
  obtain ⟨y, -, rfl⟩ := Finset.mem_map.mp ((outB_set b) ▸ hi)
  exact (congrFun hf y).trans (resArr_outIx c R b y).symm

theorem outP_eq (b : Fin 8) (f) : outP c b f = (((c : Thread nD τ).loc main_v3) ↦[outK b]{fullShare} f : sProp 𝕄) :=
  congrArg (fun S => (_ ↦[S]{fullShare} f : sProp 𝕄)) (outB_set b)
theorem out_todo_of (b : Fin 8) (f : Buf (Elt F) ((c : Thread nD τ).loc main_v3)) :
    (((c : Thread nD τ).loc main_v3) ↦[outK b]{fullShare} f : sProp 𝕄) ⊢ outTodo c b := by
  iintro H; iexists f; iapply (of_same (outP_eq c b f).symm); iexact H
theorem of_out_done (R : Fin 8 → S512x64.Idx → Elt F .f32) (b : Fin 8) :
    (outDone c R b : sProp 𝕄) ⊢ (((c : Thread nD τ).loc main_v3) ↦[outK b]{fullShare} resArr c R : sProp 𝕄) := by
  iintro ⟨%f, %hf, H⟩
  iapply (of_same ((outP_eq c b f).trans (pointsTo_congr (fun i hi => resArr_of_read c R b f hf i hi))))
  iexact H

/-- The result whole is its eight blocks to write; -/
theorem out_split :
    (iprop(∃ f : Buf (Elt F) ((c : Thread nD τ).loc main_v3), ((c : Thread nD τ).loc main_v3) ↦{fullShare} f) : sProp 𝕄)
      ⊢ bigSep (Ring.rangeSet 8 0 8) (outTodo c) := by
  have e : (Ring.rangeSet 8 0 8 : Finset (Fin 8)) = Finset.univ := by decide
  rw [e]
  iintro ⟨%f, H⟩
  ihave H2 := (of_same (Ring.pointsTo_blocks (Ix := Unit) (Name := ℕ) (U := UU) (Lvl := ℕ) (q := fullShare) (ℓ := (c : Thread nD τ).loc main_v3) outK outK_disjoint outK_cover f)) $$ H
  iapply (show (bigSep Finset.univ (fun b => (((c : Thread nD τ).loc main_v3) ↦[outK b]{fullShare} f)) : sProp 𝕄) ⊢ bigSep Finset.univ (outTodo c) from
    bigSep_mono fun b _ => out_todo_of c b f) $$ [H2]
  iexact H2
/-- and its eight blocks, each holding `R b`, are the result whole at the array they make. -/
theorem out_join (R : Fin 8 → S512x64.Idx → Elt F .f32) :
    (bigSep (Ring.rangeSet 8 0 8) (outDone c R) : sProp 𝕄) ⊢ (((c : Thread nD τ).loc main_v3) ↦{fullShare} resArr c R : sProp 𝕄) := by
  have e : (Ring.rangeSet 8 0 8 : Finset (Fin 8)) = Finset.univ := by decide
  rw [e, Ring.pointsTo_blocks (ℓ := (c : Thread nD τ).loc main_v3) outK outK_disjoint outK_cover]
  exact bigSep_mono fun b _ => of_out_done c R b

end Split

end Cert.Proof.Gcn

end
-- ==== Proof.Launch.lean ====
/-
  The whole run: the host operations, then the kernel at its one point. Every execution ends; the arguments are
  unchanged, the result array is the one the eight blocks make, and every semaphore is back at zero.
-/
module

public import proofs.«01_k».proof.Proof.Sets

@[expose] public section

noncomputable section

namespace Cert.Proof.Gcn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The semaphore of the copy of `seq`, the four of the `adj` ring, the two of the result ring. -/
def osem : Fin 7 → SemLoc sig := fun
  | 0 => .dma cc0_scratch2.sem | 1 => .dma (inSem 0).sem | 2 => .dma (inSem 1).sem | 3 => .dma (inSem 2).sem | 4 => .dma (inSem 3).sem
  | 5 => .dma (obSem 0).sem | 6 => .dma (obSem 1).sem
theorem ownSemFacts : Pipeline.OwnSemFacts spec0 osem := by decide

theorem ownSems_eq (c : Dev nD) : (Pipeline.ownSems0 (Ix := Unit) (Name := ℕ) (U := UU) (Lvl := ℕ) (Val := Elt F) (τ := τ) osem c : sProp 𝕄)
    = iprop(sqC c ∗ inC c 0 ∗ inC c 1 ∗ inC c 2 ∗ inC c 3 ∗ obC c 0 ∗ obC c 1) := by
  unfold Pipeline.ownSems0
  exact bigSep_univ_eq_bigSepL [(0 : Fin 7), (1 : Fin 7), (2 : Fin 7), (3 : Fin 7), (4 : Fin 7), (5 : Fin 7), (6 : Fin 7)] (by decide) (by decide) _

/-! ## What the kernel computes, from memory -/

/-- The staged blocks, as the point finds them. -/
abbrev wOf (c : Dev nD) (t : Fin cfg0.N) : S512x64.Idx → Elt F .f32 := iblk m c 0 t
abbrev bOf (c : Dev nD) (t : Fin cfg0.N) : S1x64.Idx → Elt F .f32 := iblk m c 1 t
abbrev aOf (c : Dev nD) (t : Fin cfg0.N) : S1x1.Idx → Elt F .f32 := iblk m c 2 t

/-- Result block `b`; -/
def blockOf (c : Dev nD) (b : Fin 8) : S512x64.Idx → Elt F .f32 :=
  resV (adjV c (V m c main_arg1) b) (ftsV (seqV c (V m c main_arg0)) (wOf m c t0_0)) (bOf m c t0_0) (aOf m c t0_0 (Shape.Idx.first (by decide)))
/-- the result. -/
def outOf (c : Dev nD) : Buf (Elt F) ((c : Thread nD τ).loc main_v3) := resArr c (blockOf m c)

/-! ## The pipeline's proof data -/

/-- Between points the kernel keeps its arrays, its buffers in parts, and its semaphores at zero; `O` is what it holds
    of the result. -/
def ΦAt (c : Dev nD) (O : sProp 𝕄) : sProp 𝕄 :=
  iprop(seqP c (V m c main_arg0) ∗ (∃ f, sqP c f) ∗ sqC c ∗ (∃ f, ftsP c f) ∗ bigSep Finset.univ (adjP c (V m c main_arg1))
    ∗ inFree c 0 ∗ inFree c 1 ∗ inFree c 2 ∗ inFree c 3 ∗ obFree c 0 ∗ obFree c 1 ∗ O ∗ ∃ r, prngReg c r)
/-- Before the one point the result is still to write, after it is written. -/
def Φ (c : Dev nD) (t : Fin (cfg0.N + 1)) : sProp 𝕄 :=
  ΦAt m c (if t.val = 0 then bigSep (Ring.rangeSet 8 0 8) (outTodo c) else bigSep (Ring.rangeSet 8 0 8) (outDone c (blockOf m c)))

def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
  Φ t := Φ m c t
  q _ := fullShare
  owed _ := 0

theorem before_0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_2 (c : Dev nD) (t : Fin cfg0.N) (d) : (dats m 0 c).before 2 t d = iblk m c 2 t := by
  unfold Dat.before; rw [if_pos (fetch0_2 t)]; unfold Dat.fetched Dat.blockOf iblk; dsimp only [dats]; rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]

/-! ## The body obligation -/

theorem defs_tc : (defs₀ (F := F)) .tc cfg0.body
    = fun a => bodyG (win0_0.stage (a.2 0)) (hstage0_0 0) (win0_1.stage (a.2 1)) (hstage0_1 0) (win0_2.stage (a.2 2)) (hstage0_2 0) := rfl
/-- The body at point `t` is the kernel on the point's staging buffers. -/
theorem prog_eq (t : Fin cfg0.N) : (defs₀ (F := F)) .tc cfg0.body (cfg0.bodyArgs t (cfg0.slots t))
    = bodyG (st0_0 t) (hstage0_0 0) (st0_1 t) (hstage0_1 0) (st0_2 t) (hstage0_2 0) :=
  (congrFun defs_tc _).trans rfl

/-- What the body computes from staging buffers that hold the blocks is `blockOf`. -/
theorem rG_rep (c : Dev nD) (t : Fin cfg0.N) :
    rG c (V m c main_arg1) (V m c main_arg0) (st0_0 t) (st0_1 t) (st0_2 t) ((st0_0 t).view.rep (wOf m c t)) ((st0_1 t).view.rep (bOf m c t)) ((st0_2 t).view.rep (aOf m c t))
      = blockOf m c := by
  rw [fin_N0 t]
  funext b
  exact resV_congr rfl (ftsV_congr rfl (View.read_rep _ _)) (View.read_rep _ _) (congrFun (View.read_rep _ _) _)

theorem Φ_start (c : Dev nD) (t : Fin cfg0.N) : Φ (F := F) m c t.castSucc = ΦAt m c (bigSep (Ring.rangeSet 8 0 8) (outTodo c)) := by
  rw [fin_N0 t]; rfl
theorem Φ_end (c : Dev nD) (t : Fin cfg0.N) : Φ (F := F) m c t.succ = ΦAt m c (bigSep (Ring.rangeSet 8 0 8) (outDone c (blockOf m c))) := by
  rw [fin_N0 t]; rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_0, before_1, before_2, after_0, after_1, after_2]
  rw [show (dats m 0 c).Φ t.castSucc = _ from Φ_start m c t, show (dats m 0 c).Φ t.succ = _ from Φ_end m c t]
  unfold Dat.owesAt Pipeline.owesWithin
  rw [show (dats m 0 c).owed t.castSucc = 0 from rfl, show (dats m 0 c).owed t.succ = 0 from rfl]
  unfold owns ΦAt
  iintro ⟨⟨Hseq, Hsq, HcS, Hfts, Hadj, H0, H1, H2, H3, Hb0, Hb1, Hout, Hr⟩, ⟨%W, -, HW⟩, ⟨%d0, %g0, %hg0, Hw⟩, ⟨%d1, %g1, %hg1, Hb⟩, ⟨%d2, %g2, %hg2, Ha⟩⟩
  ihave Hadj' := (of_same (adj_first c (V m c main_arg1))) $$ Hadj
  icases Hadj' with ⟨Ha0, Ha1, Ha2, Hhome⟩
  ihave Hw' := (pointsTo_rep_entails (c : Thread nD τ) (st0_0 t) g0 fullShare) $$ Hw
  ihave Hb' := (pointsTo_rep_entails (c : Thread nD τ) (st0_1 t) g1 fullShare) $$ Hb
  ihave Ha' := (pointsTo_rep_entails (c : Thread nD τ) (st0_2 t) g2 fullShare) $$ Ha
  rw [hg0, hg1, hg2]
  sl_rw [prog_eq t]
  iapply (bodyRun c (V m c main_arg1) (V m c main_arg0) (st0_0 t) (hstage0_0 0) (st0_1 t) (hstage0_1 0) (st0_2 t) (hstage0_2 0) _ _ _)
  isplitl [Hseq Hsq HcS Hfts Ha0 Ha1 Ha2 Hhome H0 H1 H2 H3 Hb0 Hb1 Hout HW Hw' Hb' Ha']
  · isplitl [Hw']; · iexact Hw'
    isplitl [Hb']; · iexact Hb'
    isplitl [Ha']; · iexact Ha'
    isplitl [Hseq]; · iexact Hseq
    isplitl [Hsq]; · iexact Hsq
    isplitl [HcS]; · iexact HcS
    isplitl [Hfts]; · iexact Hfts
    isplitl [Ha0]; · iexact Ha0
    isplitl [Ha1]; · iexact Ha1
    isplitl [Ha2]; · iexact Ha2
    isplitl [Hhome]; · iexact Hhome
    isplitl [H0]; · iexact H0
    isplitl [H1]; · iexact H1
    isplitl [H2]; · iexact H2
    isplitl [H3]; · iexact H3
    isplitl [Hb0]; · iexact Hb0
    isplitl [Hb1]; · iexact Hb1
    isplitl [Hout]; · iexact Hout
    iexists W; iexact HW
  · iintro ⟨Hw, Hb, Ha, Hseq, Hsq, HcS, Hfts, Hadj, H0, H1, H2, H3, Hb0, Hb1, Hout, ⟨%W', HW⟩⟩
    isplitl [Hseq Hsq HcS Hfts Hadj H0 H1 H2 H3 Hb0 Hb1 Hout Hr]
    · isplitl [Hseq]; · iexact Hseq
      isplitl [Hsq]; · iexact Hsq
      isplitl [HcS]; · iexact HcS
      isplitl [Hfts]; · iexact Hfts
      isplitl [Hadj]; · iexact Hadj
      isplitl [H0]; · iexact H0
      isplitl [H1]; · iexact H1
      isplitl [H2]; · iexact H2
      isplitl [H3]; · iexact H3
      isplitl [Hb0]; · iexact Hb0
      isplitl [Hb1]; · iexact Hb1
      isplitl [Hout]
      · iapply (of_same (congrArg (fun R => bigSep (Ring.rangeSet 8 0 8) (outDone c R)) (rG_rep m c t))); iexact Hout
      iexact Hr
    isplitl [HW]
    · iexists W'; isplitr; · ipureintro; exact fun _ _ => Or.inl trivial
      iexact HW
    isplitl [Hw]
    · iexists _; isplitr; · ipureintro; exact View.read_rep _ _
      iexact Hw
    isplitl [Hb]
    · iexists _; isplitr; · ipureintro; exact View.read_rep _ _
      iexact Hb
    iexists _; isplitr; · ipureintro; exact View.read_rep _ _
    iexact Ha

/-! ## The run -/

/-- The buffers the kernel reaches by its own transfers. -/
def moved : Finset (Ref sig .tc) := {main_arg0, main_arg1, main_v3}
/-- Their contents at the end. -/
def atEnd (c : Dev nD) : (b : Ref sig .tc) → Buf (Elt F) ((c : Thread nD τ).loc b) := Function.update (V m c) main_v3 (outOf m c)

theorem atEnd_of_ne (c : Dev nD) (b : Ref sig .tc) (h : b ≠ main_v3) : atEnd m c b = V m c b := Function.update_of_ne h _ _
theorem atEnd_v3 (c : Dev nD) : atEnd m c main_v3 = outOf m c := Function.update_self _ _ _

theorem routed_eq (c : Dev nD) (W : (b : Ref sig .tc) → Buf (Elt F) ((c : Thread nD τ).loc b)) :
    (Pipeline.routed moved c W : sProp 𝕄)
      = iprop((((c : Thread nD τ).loc main_arg0) ↦{fullShare} W main_arg0) ∗ (((c : Thread nD τ).loc main_arg1) ↦{fullShare} W main_arg1) ∗ (((c : Thread nD τ).loc main_v3) ↦{fullShare} W main_v3)) := by
  unfold Pipeline.routed moved
  rw [bigSep_insert (by decide), bigSep_insert (by decide), bigSep_singleton]; rfl

theorem hmain : Pipeline.HMain (Ix := Unit) (Name := ℕ) (U := UU) (Lvl := ℕ) cfgs 0 (defs₀ (F := F)) 𝒱₀ m main (V m) :=
  Pipeline.hmain_prefix cfgs 0 defs₀ 𝒱₀ m main hostOps0 hostOps0_sub hostOps0_fresh main_chain

/-- A whole buffer held whole. -/
theorem whole_eq (c : Dev nD) (b : Ref sig .tc) (f : Buf (Elt F) ((c : Thread nD τ).loc b)) :
    ((Memref.whole b).view.loc (c : Thread nD τ) ↦[(Memref.whole b).view.set]{fullShare} f : sProp 𝕄) = (((c : Thread nD τ).loc b) ↦{fullShare} f) :=
  congrArg (fun S => (_ ↦[S]{fullShare} f : sProp 𝕄)) (View.set_whole _)

theorem enter (c : Dev nD) : Pipeline.Ends spec0 osem moved c (V m c) ⊢ (dats (F := F) m 0 c).Φ 0 := by
  rw [show (dats (F := F) m 0 c).Φ 0 = ΦAt m c (bigSep (Ring.rangeSet 8 0 8) (outTodo c)) from rfl]
  unfold Pipeline.Ends ΦAt
  rw [routed_eq, ownSems_eq, scopedRest0_eq, adj_eq c (V m c main_arg1)]
  iintro ⟨⟨Hseq, Hadj, Hout⟩, ⟨HcS, Hc0, Hc1, Hc2, Hc3, Hd0, Hd1⟩, ⟨⟨%ff, Hfts⟩, ⟨%fs, Hsq⟩, Hin, Hob⟩, Hr⟩
  ihave Hin' := (in_split c) $$ Hin
  icases Hin' with ⟨H0, H1, H2, H3⟩
  ihave Hob' := (ob_split c) $$ Hob
  icases Hob' with ⟨Hb0, Hb1⟩
  isplitl [Hseq]; · iapply (of_same (whole_eq c main_arg0 _).symm); iexact Hseq
  isplitl [Hsq]; · iexists fs; iapply (of_same (whole_eq c cc0_scratch1 _).symm); iexact Hsq
  isplitl [HcS]; · iexact HcS
  isplitl [Hfts]; · iexists ff; iapply (of_same (whole_eq c cc0_scratch0 _).symm); iexact Hfts
  isplitl [Hadj]; · iexact Hadj
  isplitl [H0 Hc0]
  · isplitl [H0]; · iexact H0
    iexact Hc0
  isplitl [H1 Hc1]
  · isplitl [H1]; · iexact H1
    iexact Hc1
  isplitl [H2 Hc2]
  · isplitl [H2]; · iexact H2
    iexact Hc2
  isplitl [H3 Hc3]
  · isplitl [H3]; · iexact H3
    iexact Hc3
  isplitl [Hb0 Hd0]
  · isplitl [Hb0]; · iexact Hb0
    iexact Hd0
  isplitl [Hb1 Hd1]
  · isplitl [Hb1]; · iexact Hb1
    iexact Hd1
  isplitl [Hout]
  · iapply (out_split c); iexists _; iexact Hout
  iexact Hr

theorem leave (c : Dev nD) : (dats (F := F) m 0 c).Φ (Fin.last cfg0.N) ⊢ Pipeline.Ends spec0 osem moved c (atEnd m c) := by
  rw [show (dats (F := F) m 0 c).Φ (Fin.last cfg0.N) = ΦAt m c (bigSep (Ring.rangeSet 8 0 8) (outDone c (blockOf m c))) from rfl]
  unfold Pipeline.Ends ΦAt
  rw [routed_eq, ownSems_eq, scopedRest0_eq, atEnd_of_ne m c main_arg0 (by decide), atEnd_of_ne m c main_arg1 (by decide), atEnd_v3, adj_eq c (V m c main_arg1)]
  iintro ⟨Hseq, ⟨%fs, Hsq⟩, HcS, ⟨%ff, Hfts⟩, Hadj, ⟨H0, Hc0⟩, ⟨H1, Hc1⟩, ⟨H2, Hc2⟩, ⟨H3, Hc3⟩, ⟨Hb0, Hd0⟩, ⟨Hb1, Hd1⟩, Hout, Hr⟩
  isplitl [Hseq Hadj Hout]
  · isplitl [Hseq]; · iapply (of_same (whole_eq c main_arg0 _)); iexact Hseq
    isplitl [Hadj]; · iexact Hadj
    iapply (out_join c (blockOf m c)); iexact Hout
  isplitl [HcS Hc0 Hc1 Hc2 Hc3 Hd0 Hd1]
  · isplitl [HcS]; · iexact HcS
    isplitl [Hc0]; · iexact Hc0
    isplitl [Hc1]; · iexact Hc1
    isplitl [Hc2]; · iexact Hc2
    isplitl [Hc3]; · iexact Hc3
    isplitl [Hd0]; · iexact Hd0
    iexact Hd1
  isplitr [Hr]
  · isplitl [Hfts]; · iexists ff; iapply (of_same (whole_eq c cc0_scratch0 _)); iexact Hfts
    isplitl [Hsq]; · iexists fs; iapply (of_same (whole_eq c cc0_scratch1 _)); iexact Hsq
    isplitl [H0 H1 H2 H3]
    · iapply (in_join c)
      isplitl [H0]; · iexact H0
      isplitl [H1]; · iexact H1
      isplitl [H2]; · iexact H2
      iexact H3
    iapply (ob_join c)
    isplitl [Hb0]; · iexact Hb0
    iexact Hb1
  iexact Hr

/-- What the claims read of the end: the result, the arguments, the semaphores. -/
def Ended (r : PUnit × MemSt nD τ sig (Elt F)) : Prop :=
  (∀ c : Dev nD, r.2.mem ((c : Thread nD τ).loc main_v3) = outOf m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4))
  ∧ r.2.sem = fun _ => 0

theorem ended_of (r : PUnit × MemSt nD τ sig (Elt F)) (h : Pipeline.RoutedPost cfgs (dats m) 0 moved (V m) (atEnd m) r ∧ r.2.sem = fun _ => 0) : Ended m r :=
  ⟨fun c => ⟨((h.1 c).2.1 main_v3 (by decide)).trans (atEnd_v3 m c),
    ((h.1 c).2.1 main_arg0 (by decide)).trans ((atEnd_of_ne m c main_arg0 (by decide)).trans (V_main_arg0 m c)),
    ((h.1 c).2.1 main_arg1 (by decide)).trans ((atEnd_of_ne m c main_arg1 (by decide)).trans (V_main_arg1 m c)),
    ((h.1 c).2.2 main_arg2 (Finset.mem_sdiff.mpr ⟨Pipeline.mem_restRefs_of main_arg2 (by decide) (by decide), by decide⟩)).trans (V_main_arg2 m c),
    ((h.1 c).2.2 main_arg3 (Finset.mem_sdiff.mpr ⟨Pipeline.mem_restRefs_of main_arg3 (by decide) (by decide), by decide⟩)).trans (V_main_arg3 m c),
    ((h.1 c).2.2 main_arg4 (Finset.mem_sdiff.mpr ⟨Pipeline.mem_restRefs_of main_arg4 (by decide) (by decide), by decide⟩)).trans (V_main_arg4 m c)⟩, h.2⟩

theorem moved_sub : moved ⊆ Pipeline.restRefs sig spec0 := by
  intro b hb
  simp only [moved, Finset.mem_insert, Finset.mem_singleton] at hb
  rcases hb with rfl | rfl | rfl
  all_goals exact Pipeline.mem_restRefs_of _ (by decide) (by decide)

/-- Every execution ends, and ends so. -/
theorem run_main : θ_run defs (onTc (τ := τ) (main (F := F))) ⟨m, fun _ => 0, ρ⟩ (Ended m) :=
  Pipeline.θ_run_frame_routed cfgs (dats m) 0 launch0 ownSemFacts defs₀ 𝒱₀ m ρ main
    (hbody := fun c => (body_obligation m c).loose) (hshare := fun c => (dats m 0 c).share_full fun _ => rfl) (howed := fun _ _ => rfl)
    (V := V m) (hmain := hmain m) (hA := fun _ _ => rfl) (R := moved) (hR := moved_sub) (Y := atEnd m)
    (hin := enter m) (hout := leave m) (Q' := Ended m) (hQ' := ended_of m)

end Cert.Proof.Gcn

end
-- ==== Proof.Same.lean ====
/-
  The program as printed and its idealization are one text, since no operation was rewritten: the same body table and the
  same entry function. A run of one is a run of the other.
-/
module

public import proofs.«01_k».proof.Proof.Gen.Kernel
public import proofs.«01_k».proof.Proof.Gen.KernelIdeal

@[expose] public section

noncomputable section

namespace Cert.Proof.Gcn

open Idealize.ShloMosaic Idealize.ShloMosaic.TcCoe Idealize.SL.Sem

variable {F : FTy → Type} [FloatOps F]

set_option maxHeartbeats 1000000 in
/-- The kernels' body tables agree at their one label, and so everywhere. -/
theorem defs₀_same : Cert.Kernel.defs₀ (F := F) = Cert.KernelIdeal.defs₀ (F := F) := by
  unfold Cert.Kernel.defs₀ Cert.KernelIdeal.defs₀
  refine congrArg (Defs.onTc (Λ := Cert.Kernel.Λ₀)) ?_
  funext l a
  obtain ⟨l, hl⟩ := l
  obtain rfl : l = 0 := by omega
  obtain ⟨t, s⟩ := a
  rfl
theorem defs_same : Cert.Kernel.defs (F := F) = Cert.KernelIdeal.defs (F := F) :=
  congrArg (Pipeline.defs (Cert.KernelIdeal.pcfgs (F := F))) defs₀_same
theorem main_same : Cert.Kernel.main (F := F) = Cert.KernelIdeal.main (F := F) := rfl

/-- What every run of the idealization ends in, every run of the printed program ends in. -/
theorem run_same (s : MemSt Cert.KernelIdeal.nD Cert.KernelIdeal.τ Cert.KernelIdeal.sig (Elt F)) (Q : PUnit × MemSt Cert.KernelIdeal.nD Cert.KernelIdeal.τ Cert.KernelIdeal.sig (Elt F) → Prop)
    (h : θ_run Cert.KernelIdeal.defs (onTc (τ := Cert.KernelIdeal.τ) (Cert.KernelIdeal.main (F := F))) s Q) :
    θ_run Cert.Kernel.defs (onTc (τ := Cert.Kernel.τ) (Cert.Kernel.main (F := F))) s Q := by
  have e := defs_same (F := F)
  rw [e]
  exact h

end Cert.Proof.Gcn

end
-- ==== Proof.Value.lean ====
/-
  The values, on extended reals. Entry (i, j) of the result is `s` where `s > 0` and `a * s` elsewhere, with
  `s = sum over k of adj(i, k) * (sum over l of seq(k, l) * W(j, l)) + bias(j)`. The kernel's result and the
  reference's are both that, entry by entry: the same products in sums over the same indices, so no argument needs to
  be finite.
-/
module

public import proofs.«01_k».proof.Proof.Launch
public import proofs.«01_k».proof.Proof.Gen.ReferenceIdeal.Run
public import Idealize.ShloMosaic.Lib.Pointwise
public import Idealize.ShloMosaic.Lib.Pipeline.ValueKit
public import Idealize.ShloMosaic.Lib.Claim

@[expose] public section

noncomputable section

namespace Cert.Proof.Gcn

open Idealize.ShloMosaic
open Idealize.ShloMosaic.TcCoe Idealize.ShloMosaic.Tactic
open Idealize.SL.Sem

/-! ## The layer, at an entry -/

section Layer

open Cert.KernelIdeal

variable (A : S4096x4096.Idx → Elt Ideal .f32) (S : S4096x512.Idx → Elt Ideal .f32) (W : S64x512.Idx → Elt Ideal .f32)
  (B : S64.Idx → Elt Ideal .f32) (a : S_.Idx → Elt Ideal .f32)

/-- Feature `j` of node `k`; -/
def feature (k : Fin 4096) (j : Fin 64) : EReal := ∑ l : Fin 512, S (ix2 k l) * W (ix2 j l)
/-- the neighbours' features summed with their weights, and the bias; -/
def summed (i : Fin 4096) (j : Fin 64) : EReal := ∑ k : Fin 4096, A (ix2 i k) * feature S W k j + B (ix1 j)
/-- PReLU of that. -/
def entry (i : Fin 4096) (j : Fin 64) : EReal :=
  if 0 < summed A S W B i j then summed A S W B i j else a ix0 * summed A S W B i j

end Layer

/-! ## The kernel's result -/

section Kernel

open Cert.KernelIdeal Cert.KernelIdeal.Gen

/-- The features the kernel stores, at an entry; `w` is the transposed weight. -/
theorem ftsV_at (x : S4096x512.Idx → Elt Ideal .f32) (w : S512x64.Idx → Elt Ideal .f32) (k : Fin 4096) (j : Fin 64) :
    ftsV (F := Ideal) x w (ix2 k j) = (∑ l : Fin 512, x (ix2 k l) * w (ix2 l j) : EReal) := by
  unfold ftsV
  pointwise [k0_pay1]

/-- A result block, at an entry. -/
theorem resV_at (A : S512x4096.Idx → Elt Ideal .f32) (y : S4096x64.Idx → Elt Ideal .f32) (b : S1x64.Idx → Elt Ideal .f32)
    (a : Elt Ideal .f32) (r : Fin 512) (j : Fin 64) (s : EReal)
    (hs : (∑ k : Fin 4096, A (ix2 r k) * y (ix2 k j) + b (ix2 0 j) : EReal) = s) :
    resV (F := Ideal) A y b a (ix2 r j) = (if 0 < s then s else (show EReal from a) * s : EReal) := by
  subst hs
  unfold resV
  pointwise [k0_pay3]

variable (m : (ℓ : Loc nD τ sig) → Buf (Elt Ideal) ℓ) (c : Dev nD)

/-- The arguments, as arrays of extended reals. -/
abbrev seqA : S4096x512.Idx → Elt Ideal .f32 := m ((c : Thread nD τ).loc main_arg0)
abbrev adjA : S4096x4096.Idx → Elt Ideal .f32 := m ((c : Thread nD τ).loc main_arg1)
abbrev wA : S64x512.Idx → Elt Ideal .f32 := m ((c : Thread nD τ).loc main_arg2)
abbrev biasA : S64.Idx → Elt Ideal .f32 := m ((c : Thread nD τ).loc main_arg3)
abbrev slopeA : S_.Idx → Elt Ideal .f32 := m ((c : Thread nD τ).loc main_arg4)

/-! ### The staged blocks: each is a whole host array, a transpose or a reshape of an argument -/

theorem entry_w : V m c main_v0 = (transpose S512x64 [1, 0] (wA m c) transposes_S64x512_S512x64_1_0 : S512x64.Idx → Elt Ideal .f32) := by
  simp only [V, hostOps0]
  after_results
theorem entry_b : V m c main_v1 = (shapeCast S1x64 (biasA m c) shapeCasts_S64_S1x64 : S1x64.Idx → Elt Ideal .f32) := by
  simp only [V, hostOps0]
  after_results
  rfl
theorem entry_a : V m c main_v2 = (shapeCast S1x1 (slopeA m c) shapeCasts_S_S1x1 : S1x1.Idx → Elt Ideal .f32) := by
  simp only [V, hostOps0]
  after_results
  rfl

theorem at_0 (a) : win0_0.index t0_0 a = 0 := rfl
theorem at_1 (a) : win0_1.index t0_0 a = 0 := rfl
theorem at_2 (a) : win0_2.index t0_0 a = 0 := rfl

theorem wOf_eq : wOf m c t0_0 = V m c main_v0 := by
  funext y
  unfold wOf
  blk_ext [iblk, at_0]
theorem bOf_eq : bOf m c t0_0 = V m c main_v1 := by
  funext y
  unfold bOf
  blk_ext [iblk, at_1]
theorem aOf_eq : aOf m c t0_0 = V m c main_v2 := by
  funext y
  unfold aOf
  blk_ext [iblk, at_2]

theorem wOf_at (l : Fin 512) (j : Fin 64) : wOf m c t0_0 (ix2 l j) = wA m c (ix2 j l) := by
  rw [wOf_eq, entry_w]
  pointwise
theorem bOf_at (j : Fin 64) : bOf m c t0_0 (ix2 0 j) = biasA m c (ix1 j) := by
  rw [bOf_eq, entry_b]
  pointwise
theorem aOf_at (y : S1x1.Idx) : aOf m c t0_0 y = slopeA m c ix0 := by
  rw [aOf_eq, entry_a]
  pointwise

/-! ### The blocks of `adj`, and the result -/

/-- Row `r` of block `b` of an array is its row `512 b + r`. -/
theorem adjV_at (XA : S4096x4096.Idx → Elt Ideal .f32) (b : Fin 8) (r : Fin 512) (k : Fin 4096) (i : Fin 4096) (hi : i.val = 512 * b.val + r.val) :
    adjV (F := Ideal) c XA b (ix2 r k) = XA (ix2 i k) := by
  refine congrArg XA ?_
  funext a
  fin_cases a
  · exact Fin.ext ((ValueKit.rect_emb_unit_val (s := S4096x4096) (adjOff b) S512x4096.size (adjOff_inb b) (ix2 r k) 0).trans hi.symm)
  · exact Fin.ext ((ValueKit.rect_emb_unit_val (s := S4096x4096) (adjOff b) S512x4096.size (adjOff_inb b) (ix2 r k) 1).trans (Nat.zero_add _))

/-- The kernel's result at an entry. -/
theorem outOf_at (i : Fin 4096) (j : Fin 64) :
    (outOf m c : S4096x64.Idx → Elt Ideal .f32) (ix2 i j) = entry (adjA m c) (seqA m c) (wA m c) (biasA m c) (slopeA m c) i j := by
  have hb : i.val / 512 < 8 := by have := i.isLt; omega
  have hr : i.val % 512 < 512 := Nat.mod_lt _ (by omega)
  refine (resV_at _ _ _ _ ⟨i.val % 512, hr⟩ j (summed (adjA m c) (seqA m c) (wA m c) (biasA m c) i j) ?_).trans ?_
  · unfold summed feature
    refine congrArg₂ (fun x y : EReal => x + y) (Finset.sum_congr rfl fun k _ => congrArg₂ (fun x y : EReal => x * y) ?_ ?_) (bOf_at m c j)
    · rw [V_main_arg1]
      exact adjV_at c (adjA m c) ⟨i.val / 512, hb⟩ ⟨i.val % 512, hr⟩ k i (Nat.div_add_mod _ _).symm
    · rw [ftsV_at]
      refine Finset.sum_congr rfl fun l _ => congrArg₂ (fun x y : EReal => x * y) ?_ (wOf_at m c l j)
      rw [V_main_arg0]
      rfl
  · rw [aOf_at]
    rfl

end Kernel

/-! ## The reference's result -/

section Reference

open Cert.ReferenceIdeal Cert.ReferenceIdeal.Gen

variable (A : S4096x4096.Idx → Elt Ideal .f32) (S : S4096x512.Idx → Elt Ideal .f32) (W : S64x512.Idx → Elt Ideal .f32)
  (B : S64.Idx → Elt Ideal .f32) (a : S_.Idx → Elt Ideal .f32)

/-- What the reference adds up; -/
def refSum : FVec Ideal S4096x64 .f32 :=
  addf
    (Host.dotGeneral (F := Ideal) (φ₁ := .f32) (φ₂ := .f32) dot_S4096x4096_S4096x64_S4096x64_1_0_0_1_n_n none A
      (Host.dotGeneral (F := Ideal) (φ₁ := .f32) (φ₂ := .f32) dot_S4096x512_S512x64_S4096x64_1_0_0_1_n_n none S
        (transpose S512x64 [1, 0] W transposes_S64x512_S512x64_1_0)))
    (broadcastInDim S4096x64 ![0, 1] bcast_S1x64_S4096x64_0_1 (broadcastInDim S1x64 ![1] bcast_S64_S1x64_1 B))
/-- and its result. -/
def refOut : FVec Ideal S4096x64 .f32 :=
  select (cmpf .ogt (refSum A S W B) (broadcastInDim S4096x64 ![] bcast_S_S4096x64 (constant S_ .f32 0x00000000#32)))
    (refSum A S W B)
    (mulf (broadcastInDim S4096x64 ![] bcast_S_S4096x64 a) (refSum A S W B))

theorem refSum_at (i : Fin 4096) (j : Fin 64) : refSum A S W B (ix2 i j) = summed A S W B i j := by
  unfold summed feature
  pointwise [refSum]
theorem refOut_at (i : Fin 4096) (j : Fin 64) : refOut A S W B a (ix2 i j) = entry A S W B a i j := by
  unfold entry
  pointwise [refOut]
  simp only [refSum_at]

end Reference

/-! ## They are equal -/

/-- From one memory's arguments the kernel and the reference compute one array. -/
theorem outOf_eq (m : (ℓ : Loc Cert.KernelIdeal.nD Cert.KernelIdeal.τ Cert.KernelIdeal.sig) → Buf (Elt Ideal) ℓ) (c : Dev Cert.KernelIdeal.nD) :
    (outOf m c : Cert.KernelIdeal.S4096x64.Idx → Elt Ideal .f32) = refOut (adjA m c) (seqA m c) (wA m c) (biasA m c) (slopeA m c) := by
  funext y
  rw [eq_ix2 y]
  exact (outOf_at m c (y 0) (y 1)).trans (refOut_at _ _ _ _ _ (y 0) (y 1)).symm

end Cert.Proof.Gcn

end
-- ==== Proof.lean ====
/-
  The claims. The kernel, a graph-convolution layer `PReLU(adj · (seq · Wᵀ) + bias)`, is proved once for any reading of
  its floats (Proof/Launch.lean): every execution ends, the arguments are unchanged, the semaphores are back at zero
  and the result is the array `outOf`. Read at the format's own floats that is its frame; read at extended reals it is
  the idealized kernel's frame and, with Proof/Value.lean's equation, its equality with the reference.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Value
public import Idealize.ShloMosaic.Lib.Quiescent

@[expose] public section

noncomputable section

namespace Cert.Proof

open Idealize.ShloMosaic Idealize.SL.Sem

/-- The kernel at the format's own floats: the same run. -/
theorem frame_kernel : Cert.quiescent_Kernel := fun m ρ _ =>
  Gcn.run_same _ _ ((θ_run Cert.KernelIdeal.defs _ _).mono (fun _ h => ⟨fun c => (h.1 c).2, h.2⟩) (Gcn.run_main (F := Bits) m ρ))
/-- The idealized kernel. -/
theorem frame_ideal : Cert.quiescent_KernelIdeal := fun m ρ _ =>
  (θ_run Cert.KernelIdeal.defs _ _).mono (fun _ h => ⟨fun c => (h.1 c).2, h.2⟩) (Gcn.run_main (F := Ideal) m ρ)

/-- The reference: host operations alone, on a machine with no semaphore. -/
theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

/-- On extended reals, from equal arguments, the kernel ends with the reference's result. -/
theorem algebraic : Cert.algebraic_KernelIdeal_ReferenceIdeal := fun m ρ m' ρ' _ hagree =>
  ⟨Gcn.outOf m,
    (θ_run Cert.KernelIdeal.defs _ _).mono (fun _ h => h.1) (Gcn.run_main (F := Ideal) m ρ),
    (θ_run Cert.ReferenceIdeal.defs _ _).mono (fun r h c => by
      obtain ⟨h0, h1, h2, h3, h4⟩ := hagree c
      obtain ⟨hr, hargs⟩ := h c
      rw [h0, h1, h2, h3, h4] at hr
      exact ⟨hr.trans (Gcn.outOf_eq m c).symm, hargs⟩) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_ideal, frame_reference, trivial, algebraic⟩

end Cert.Proof

end
